-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_affine_and_scores_in_reach [hPre_plain_affine_and_scores_in_reach : Cert.Pre_plain_affine_and_scores_in_reach.Facts] (m : (ℓ : Loc Cert.KernelIdeal.nD Cert.KernelIdeal.τ Cert.KernelIdeal.sig) → Buf (Elt Ideal) ℓ) : Prop :=
  ∀ c : Dev Cert.KernelIdeal.nD,
    (Cert.Pre_plain_affine_and_scores_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_plain_affine_and_scores_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_plain_affine_and_scores_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_plain_affine_and_scores_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_plain_affine_and_scores_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_plain_affine_and_scores_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_plain_affine_and_scores_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_plain_affine_and_scores_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_plain_affine_and_scores_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_plain_affine_and_scores_in_reach.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_affine_and_scores_in_reach [hPre_plain_affine_and_scores_in_reach : Cert.Pre_plain_affine_and_scores_in_reach.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_affine_and_scores_in_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_plain_affine_and_scores_in_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_plain_affine_and_scores_in_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_plain_affine_and_scores_in_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_plain_affine_and_scores_in_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_plain_affine_and_scores_in_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_plain_affine_and_scores_in_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_plain_affine_and_scores_in_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_plain_affine_and_scores_in_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_plain_affine_and_scores_in_reach.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2 = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_plain_affine_and_scores_in_reach [hKernelIdeal : Cert.KernelIdeal.Facts] [hPre_plain_affine_and_scores_in_reach : Cert.Pre_plain_affine_and_scores_in_reach.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_affine_and_scores_in_reach m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_plain_affine_and_scores_in_reach [hReferenceIdeal : Cert.ReferenceIdeal.Facts] [hPre_plain_affine_and_scores_in_reach : Cert.Pre_plain_affine_and_scores_in_reach.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_affine_and_scores_in_reach m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10)
      ∧ r.2.mem ((c.tc : Thread Cert.Reference.nD Cert.Reference.τ).loc Cert.Reference.main_arg11) = m ((c.tc : Thread Cert.Reference.nD Cert.Reference.τ).loc Cert.Reference.main_arg11)
      ∧ r.2.mem ((c.tc : Thread Cert.Reference.nD Cert.Reference.τ).loc Cert.Reference.main_arg12) = m ((c.tc : Thread Cert.Reference.nD Cert.Reference.τ).loc Cert.Reference.main_arg12))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)
  ∧ IdealRules.named_const.Statement Cert.KernelIdeal.κ "half_root" .bf16 0x3F35#16 ((11863283 / 16777216 : ℝ) : EReal)

def preserves_Reference_ReferenceIdeal : Prop :=
  True

def algebraic_KernelIdeal_ReferenceIdeal_pre_plain_affine_and_scores_in_reach [hKernelIdeal : Cert.KernelIdeal.Facts] [hReferenceIdeal : Cert.ReferenceIdeal.Facts] [hPre_plain_affine_and_scores_in_reach : Cert.Pre_plain_affine_and_scores_in_reach.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_affine_and_scores_in_reach m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hReference : Cert.Reference.Facts) (hPre_plain_affine_and_scores_in_reach : Cert.Pre_plain_affine_and_scores_in_reach.Facts),
    quiescent_Kernel (hKernel := hKernel)
    ∧ quiescent_KernelIdeal (hKernelIdeal := hKernelIdeal)
    ∧ quiescent_KernelIdeal_pre_plain_affine_and_scores_in_reach (hKernelIdeal := hKernelIdeal) (hPre_plain_affine_and_scores_in_reach := hPre_plain_affine_and_scores_in_reach)
    ∧ quiescent_ReferenceIdeal (hReferenceIdeal := hReferenceIdeal)
    ∧ quiescent_ReferenceIdeal_pre_plain_affine_and_scores_in_reach (hReferenceIdeal := hReferenceIdeal) (hPre_plain_affine_and_scores_in_reach := hPre_plain_affine_and_scores_in_reach)
    ∧ quiescent_Reference (hReference := hReference)
    ∧ preserves_Kernel_KernelIdeal
    ∧ preserves_Reference_ReferenceIdeal
    ∧ algebraic_KernelIdeal_ReferenceIdeal_pre_plain_affine_and_scores_in_reach (hKernelIdeal := hKernelIdeal) (hReferenceIdeal := hReferenceIdeal) (hPre_plain_affine_and_scores_in_reach := hPre_plain_affine_and_scores_in_reach)
-- ==== Pre_plain_affine_and_scores_in_reach.lean ====
abbrev S4x2048x768 : Shape := ⟨3, ![4, 2048, 768]⟩
abbrev S768 : Shape := ⟨1, ![768]⟩
abbrev S768x2304 : Shape := ⟨2, ![768, 2304]⟩
abbrev S2304 : Shape := ⟨1, ![2304]⟩
abbrev S768x768 : Shape := ⟨2, ![768, 768]⟩
abbrev S768x3072 : Shape := ⟨2, ![768, 3072]⟩
abbrev S3072 : Shape := ⟨1, ![3072]⟩
abbrev S3072x768 : Shape := ⟨2, ![3072, 768]⟩
abbrev S_ : Shape := ⟨0, ![]⟩
abbrev S4x2048 : Shape := ⟨2, ![4, 2048]⟩
abbrev S4x2048x1 : Shape := ⟨3, ![4, 2048, 1]⟩
abbrev S1x1x768 : Shape := ⟨3, ![1, 1, 768]⟩
abbrev S4x2048x2304 : Shape := ⟨3, ![4, 2048, 2304]⟩
abbrev S1x1x2304 : Shape := ⟨3, ![1, 1, 2304]⟩
abbrev S4x2048x3x12x64 : Shape := ⟨5, ![4, 2048, 3, 12, 64]⟩
abbrev S3x4x12x2048x64 : Shape := ⟨5, ![3, 4, 12, 2048, 64]⟩
abbrev S1x4x12x2048x64 : Shape := ⟨5, ![1, 4, 12, 2048, 64]⟩
abbrev S4x12x2048x64 : Shape := ⟨4, ![4, 12, 2048, 64]⟩
abbrev S4x12x64x2048 : Shape := ⟨4, ![4, 12, 64, 2048]⟩
abbrev S4x12x2048x2048 : Shape := ⟨4, ![4, 12, 2048, 2048]⟩

class Facts : Prop where
  reducesTo_S4x2048x768_S4x2048_d2 : S4x2048x768.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x768_0_1_2 : S4x2048x1.BroadcastsInDim S4x2048x768 (![0, 1, 2] : Fin 3 → Fin S4x2048x768.rank)
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  bcast_S2304_S1x1x2304_2 : S2304.BroadcastsInDim S1x1x2304 (![2] : Fin 1 → Fin S1x1x2304.rank)
  bcast_S1x1x2304_S4x2048x2304_0_1_2 : S1x1x2304.BroadcastsInDim S4x2048x2304 (![0, 1, 2] : Fin 3 → Fin S4x2048x2304.rank)
  shapeCasts_S4x2048x2304_S4x2048x3x12x64 : S4x2048x2304.ShapeCasts S4x2048x3x12x64
  transposes_S4x2048x3x12x64_S3x4x12x2048x64_2_0_3_1_4 : S4x2048x3x12x64.Transposes [2, 0, 3, 1, 4] S3x4x12x2048x64
  slices_S3x4x12x2048x64_S1x4x12x2048x64_0_0_0_0_0 : S3x4x12x2048x64.Slices ![0, 0, 0, 0, 0] S1x4x12x2048x64
  shapeCasts_S1x4x12x2048x64_S4x12x2048x64 : S1x4x12x2048x64.ShapeCasts S4x12x2048x64
  bcast_S_S4x12x2048x64 : S_.BroadcastsInDim S4x12x2048x64 (![] : Fin 0 → Fin S4x12x2048x64.rank)
  slices_S3x4x12x2048x64_S1x4x12x2048x64_1_0_0_0_0 : S3x4x12x2048x64.Slices ![1, 0, 0, 0, 0] S1x4x12x2048x64
  transposes_S4x12x2048x64_S4x12x64x2048_0_1_3_2 : S4x12x2048x64.Transposes [0, 1, 3, 2] S4x12x64x2048
  bcast_S_S768 : S_.BroadcastsInDim S768 (![] : Fin 0 → Fin S768.rank)
  bcast_S_S2304 : S_.BroadcastsInDim S2304 (![] : Fin 0 → Fin S2304.rank)
  bcast_S_S3072 : S_.BroadcastsInDim S3072 (![] : Fin 0 → Fin S3072.rank)
  bcast_S_S4x12x2048x2048 : S_.BroadcastsInDim S4x12x2048x2048 (![] : Fin 0 → Fin S4x12x2048x2048.rank)
  dot_S4x2048x768_S768x2304_S4x2048x2304_2_0_01_1_n_n_wf : DotDims.WF S4x2048x768 S768x2304 S4x2048x2304 [2] [0] [0, 1] [1] [] []
  dot_S4x12x2048x64_S4x12x64x2048_S4x12x2048x2048_3_2_2_3_01_01_wf : DotDims.WF S4x12x2048x64 S4x12x64x2048 S4x12x2048x2048 [3] [2] [2] [3] [0, 1] [0, 1]

variable [Facts]

def dot_S4x2048x768_S768x2304_S4x2048x2304_2_0_01_1_n_n : DotDims S4x2048x768 S768x2304 S4x2048x2304 where
  lhsContracting := [2]
  rhsContracting := [0]
  lhsNonContracting := [0, 1]
  rhsNonContracting := [1]
  lhsBatch := []
  rhsBatch := []
  wf := dot_S4x2048x768_S768x2304_S4x2048x2304_2_0_01_1_n_n_wf
def dot_S4x12x2048x64_S4x12x64x2048_S4x12x2048x2048_3_2_2_3_01_01 : DotDims S4x12x2048x64 S4x12x64x2048 S4x12x2048x2048 where
  lhsContracting := [3]
  rhsContracting := [2]
  lhsNonContracting := [2]
  rhsNonContracting := [3]
  lhsBatch := [0, 1]
  rhsBatch := [0, 1]
  wf := dot_S4x12x2048x64_S4x12x64x2048_S4x12x2048x2048_3_2_2_3_01_01_wf
def fn_part3 {F : FTy → Type} [FloatOps F] (main_v37 : FVec F S4x12x2048x2048 .f32) (main_v39 : IVec S768 1) (main_v41 : IVec S768 1) (main_v43 : IVec S2304 1) (main_v45 : IVec S768 1) (main_v47 : IVec S768 1) (main_v49 : IVec S768 1) (main_v51 : IVec S3072 1) (main_v53 : IVec S768 1) (main_v55 : IVec S4x12x2048x2048 1) (main_cst_14 : FVec F S_ .f32) : IVec S768 1 × IVec S768 1 × IVec S2304 1 × IVec S768 1 × IVec S768 1 × IVec S768 1 × IVec S3072 1 × IVec S768 1 × IVec S4x12x2048x2048 1 × IVec S4x12x2048x2048 1 :=
  let main_v56 : FVec F S4x12x2048x2048 .f32 := broadcastInDim S4x12x2048x2048 ![] bcast_S_S4x12x2048x2048 main_cst_14
  let main_v57 : IVec S4x12x2048x2048 1 := cmpf .ole main_v37 main_v56
  (main_v39, main_v41, main_v43, main_v45, main_v47, main_v49, main_v51, main_v53, main_v55, main_v57)

def fn_part2 {F : FTy → Type} [FloatOps F] (main_arg2 : FVec F S768 .f32) (main_arg4 : FVec F S2304 .f32) (main_arg6 : FVec F S768 .f32) (main_arg7 : FVec F S768 .f32) (main_arg8 : FVec F S768 .f32) (main_arg10 : FVec F S3072 .f32) (main_arg12 : FVec F S768 .f32) (main_v37 : FVec F S4x12x2048x2048 .f32) (main_v39 : IVec S768 1) (main_cst_6 : FVec F S_ .f32) : IVec S768 1 × IVec S768 1 × IVec S2304 1 × IVec S768 1 × IVec S768 1 × IVec S768 1 × IVec S3072 1 × IVec S768 1 × IVec S4x12x2048x2048 1 × IVec S4x12x2048x2048 1 :=
  let main_v40 : FVec F S768 .f32 := broadcastInDim S768 ![] bcast_S_S768 main_cst_6
  let main_v41 : IVec S768 1 := cmpf .oeq main_arg2 main_v40
  let main_cst_7 : FVec F S_ .f32 := constant S_ .f32 0x00000000#32
  let main_v42 : FVec F S2304 .f32 := broadcastInDim S2304 ![] bcast_S_S2304 main_cst_7
  let main_v43 : IVec S2304 1 := cmpf .oeq main_arg4 main_v42
  let main_cst_8 : FVec F S_ .f32 := constant S_ .f32 0x00000000#32
  let main_v44 : FVec F S768 .f32 := broadcastInDim S768 ![] bcast_S_S768 main_cst_8
  let main_v45 : IVec S768 1 := cmpf .oeq main_arg6 main_v44
  let main_cst_9 : FVec F S_ .f32 := constant S_ .f32 0x3F800000#32
  let main_v46 : FVec F S768 .f32 := broadcastInDim S768 ![] bcast_S_S768 main_cst_9
  let main_v47 : IVec S768 1 := cmpf .oeq main_arg7 main_v46
  let main_cst_10 : FVec F S_ .f32 := constant S_ .f32 0x00000000#32
  let main_v48 : FVec F S768 .f32 := broadcastInDim S768 ![] bcast_S_S768 main_cst_10
  let main_v49 : IVec S768 1 := cmpf .oeq main_arg8 main_v48
  let main_cst_11 : FVec F S_ .f32 := constant S_ .f32 0x00000000#32
  let main_v50 : FVec F S3072 .f32 := broadcastInDim S3072 ![] bcast_S_S3072 main_cst_11
  let main_v51 : IVec S3072 1 := cmpf .oeq main_arg10 main_v50
  let main_cst_12 : FVec F S_ .f32 := constant S_ .f32 0x00000000#32
  let main_v52 : FVec F S768 .f32 := broadcastInDim S768 ![] bcast_S_S768 main_cst_12
  let main_v53 : IVec S768 1 := cmpf .oeq main_arg12 main_v52
  let main_cst_13 : FVec F S_ .f32 := constant S_ .f32 0xFF800000#32
  let main_v54 : FVec F S4x12x2048x2048 .f32 := broadcastInDim S4x12x2048x2048 ![] bcast_S_S4x12x2048x2048 main_cst_13
  let main_v55 : IVec S4x12x2048x2048 1 := cmpf .ogt main_v37 main_v54
  let main_cst_14 : FVec F S_ .f32 := constant S_ .f32 0x429B4396#32
  fn_part3 (F := F) main_v37 main_v39 main_v41 main_v43 main_v45 main_v47 main_v49 main_v51 main_v53 main_v55 main_cst_14

def fn_part1 {F : FTy → Type} [FloatOps F] (main_arg1 : FVec F S768 .f32) (main_arg2 : FVec F S768 .f32) (main_arg3 : FVec F S768x2304 .f32) (main_arg4 : FVec F S2304 .f32) (main_arg6 : FVec F S768 .f32) (main_arg7 : FVec F S768 .f32) (main_arg8 : FVec F S768 .f32) (main_arg10 : FVec F S3072 .f32) (main_arg12 : FVec F S768 .f32) (main_v17 : FVec F S4x2048x768 .f32) (main_v18 : FVec F S1x1x768 .f32) : IVec S768 1 × IVec S768 1 × IVec S2304 1 × IVec S768 1 × IVec S768 1 × IVec S768 1 × IVec S3072 1 × IVec S768 1 × IVec S4x12x2048x2048 1 × IVec S4x12x2048x2048 1 :=
  let main_v19 : FVec F S4x2048x768 .f32 := broadcastInDim S4x2048x768 ![0, 1, 2] bcast_S1x1x768_S4x2048x768_0_1_2 main_v18
  let main_v20 : FVec F S4x2048x768 .f32 := mulf main_v17 main_v19
  let main_v21 : FVec F S1x1x768 .f32 := broadcastInDim S1x1x768 ![2] bcast_S768_S1x1x768_2 main_arg2
  let main_v22 : FVec F S4x2048x768 .f32 := broadcastInDim S4x2048x768 ![0, 1, 2] bcast_S1x1x768_S4x2048x768_0_1_2 main_v21
  let main_v23 : FVec F S4x2048x768 .f32 := addf main_v20 main_v22
  let main_v24 : FVec F S4x2048x2304 .f32 := (fun l r => Host.dotGeneral dot_S4x2048x768_S768x2304_S4x2048x2304_2_0_01_1_n_n none l r) main_v23 main_arg3
  let main_v25 : FVec F S1x1x2304 .f32 := broadcastInDim S1x1x2304 ![2] bcast_S2304_S1x1x2304_2 main_arg4
  let main_v26 : FVec F S4x2048x2304 .f32 := broadcastInDim S4x2048x2304 ![0, 1, 2] bcast_S1x1x2304_S4x2048x2304_0_1_2 main_v25
  let main_v27 : FVec F S4x2048x2304 .f32 := addf main_v24 main_v26
  let main_v28 : FVec F S4x2048x3x12x64 .f32 := shapeCast S4x2048x3x12x64 main_v27 shapeCasts_S4x2048x2304_S4x2048x3x12x64
  let main_v29 : FVec F S3x4x12x2048x64 .f32 := (transpose S3x4x12x2048x64 [2, 0, 3, 1, 4] · transposes_S4x2048x3x12x64_S3x4x12x2048x64_2_0_3_1_4) main_v28
  let main_v30 : FVec F S1x4x12x2048x64 .f32 := (extractStridedSlice S1x4x12x2048x64 ![0, 0, 0, 0, 0] · slices_S3x4x12x2048x64_S1x4x12x2048x64_0_0_0_0_0) main_v29
  let main_v31 : FVec F S4x12x2048x64 .f32 := shapeCast S4x12x2048x64 main_v30 shapeCasts_S1x4x12x2048x64_S4x12x2048x64
  let main_cst_4 : FVec F S_ .f32 := constant S_ .f32 0x3E000000#32
  let main_v32 : FVec F S4x12x2048x64 .f32 := broadcastInDim S4x12x2048x64 ![] bcast_S_S4x12x2048x64 main_cst_4
  let main_v33 : FVec F S4x12x2048x64 .f32 := mulf main_v31 main_v32
  let main_v34 : FVec F S1x4x12x2048x64 .f32 := (extractStridedSlice S1x4x12x2048x64 ![1, 0, 0, 0, 0] · slices_S3x4x12x2048x64_S1x4x12x2048x64_1_0_0_0_0) main_v29
  let main_v35 : FVec F S4x12x2048x64 .f32 := shapeCast S4x12x2048x64 main_v34 shapeCasts_S1x4x12x2048x64_S4x12x2048x64
  let main_v36 : FVec F S4x12x64x2048 .f32 := (transpose S4x12x64x2048 [0, 1, 3, 2] · transposes_S4x12x2048x64_S4x12x64x2048_0_1_3_2) main_v35
  let main_v37 : FVec F S4x12x2048x2048 .f32 := (fun l r => Host.dotGeneral dot_S4x12x2048x64_S4x12x64x2048_S4x12x2048x2048_3_2_2_3_01_01 none l r) main_v33 main_v36
  let main_cst_5 : FVec F S_ .f32 := constant S_ .f32 0x3F800000#32
  let main_v38 : FVec F S768 .f32 := broadcastInDim S768 ![] bcast_S_S768 main_cst_5
  let main_v39 : IVec S768 1 := cmpf .oeq main_arg1 main_v38
  let main_cst_6 : FVec F S_ .f32 := constant S_ .f32 0x00000000#32
  fn_part2 (F := F) main_arg2 main_arg4 main_arg6 main_arg7 main_arg8 main_arg10 main_arg12 main_v37 main_v39 main_cst_6

def fn {F : FTy → Type} [FloatOps F] (main_arg0 : FVec F S4x2048x768 .f32) (main_arg1 : FVec F S768 .f32) (main_arg2 : FVec F S768 .f32) (main_arg3 : FVec F S768x2304 .f32) (main_arg4 : FVec F S2304 .f32) (main_arg5 : FVec F S768x768 .f32) (main_arg6 : FVec F S768 .f32) (main_arg7 : FVec F S768 .f32) (main_arg8 : FVec F S768 .f32) (main_arg9 : FVec F S768x3072 .f32) (main_arg10 : FVec F S3072 .f32) (main_arg11 : FVec F S3072x768 .f32) (main_arg12 : FVec F S768 .f32) : IVec S768 1 × IVec S768 1 × IVec S2304 1 × IVec S768 1 × IVec S768 1 × IVec S768 1 × IVec S3072 1 × IVec S768 1 × IVec S4x12x2048x2048 1 × IVec S4x12x2048x2048 1 :=
  let main_cst : FVec F S_ .f32 := constant S_ .f32 0x00000000#32
  let main_v0 : FVec F S4x2048 .f32 := (fun x v => Host.reduceAdd x v reducesTo_S4x2048x768_S4x2048_d2 h_S_) main_arg0 main_cst
  let main_v1 : FVec F S4x2048x1 .f32 := broadcastInDim S4x2048x1 ![0, 1] bcast_S4x2048_S4x2048x1_0_1 main_v0
  let main_cst_0 : FVec F S_ .f32 := constant S_ .f32 0x44400000#32
  let main_v2 : FVec F S4x2048x1 .f32 := broadcastInDim S4x2048x1 ![] bcast_S_S4x2048x1 main_cst_0
  let main_v3 : FVec F S4x2048x1 .f32 := Host.divf main_v1 main_v2
  let main_v4 : FVec F S4x2048x768 .f32 := broadcastInDim S4x2048x768 ![0, 1, 2] bcast_S4x2048x1_S4x2048x768_0_1_2 main_v3
  let main_v5 : FVec F S4x2048x768 .f32 := subf main_arg0 main_v4
  let main_v6 : FVec F S4x2048x768 .f32 := mulf main_v5 main_v5
  let main_cst_1 : FVec F S_ .f32 := constant S_ .f32 0x00000000#32
  let main_v7 : FVec F S4x2048 .f32 := (fun x v => Host.reduceAdd x v reducesTo_S4x2048x768_S4x2048_d2 h_S_) main_v6 main_cst_1
  let main_v8 : FVec F S4x2048x1 .f32 := broadcastInDim S4x2048x1 ![0, 1] bcast_S4x2048_S4x2048x1_0_1 main_v7
  let main_cst_2 : FVec F S_ .f32 := constant S_ .f32 0x44400000#32
  let main_v9 : FVec F S4x2048x1 .f32 := broadcastInDim S4x2048x1 ![] bcast_S_S4x2048x1 main_cst_2
  let main_v10 : FVec F S4x2048x1 .f32 := Host.divf main_v8 main_v9
  let main_v11 : FVec F S4x2048x768 .f32 := broadcastInDim S4x2048x768 ![0, 1, 2] bcast_S4x2048x1_S4x2048x768_0_1_2 main_v3
  let main_v12 : FVec F S4x2048x768 .f32 := subf main_arg0 main_v11
  let main_cst_3 : FVec F S_ .f32 := constant S_ .f32 0x3727C5AC#32
  let main_v13 : FVec F S4x2048x1 .f32 := broadcastInDim S4x2048x1 ![] bcast_S_S4x2048x1 main_cst_3
  let main_v14 : FVec F S4x2048x1 .f32 := addf main_v10 main_v13
  let main_v15 : FVec F S4x2048x1 .f32 := Host.sqrt main_v14
  let main_v16 : FVec F S4x2048x768 .f32 := broadcastInDim S4x2048x768 ![0, 1, 2] bcast_S4x2048x1_S4x2048x768_0_1_2 main_v15
  let main_v17 : FVec F S4x2048x768 .f32 := Host.divf main_v12 main_v16
  let main_v18 : FVec F S1x1x768 .f32 := broadcastInDim S1x1x768 ![2] bcast_S768_S1x1x768_2 main_arg1
  fn_part1 (F := F) main_arg1 main_arg2 main_arg3 main_arg4 main_arg6 main_arg7 main_arg8 main_arg10 main_arg12 main_v17 main_v18
-- ==== Kernel.lean ====
abbrev S4x2048x768 : Shape := ⟨3, ![4, 2048, 768]⟩
abbrev S768 : Shape := ⟨1, ![768]⟩
abbrev S768x2304 : Shape := ⟨2, ![768, 2304]⟩
abbrev S2304 : Shape := ⟨1, ![2304]⟩
abbrev S768x768 : Shape := ⟨2, ![768, 768]⟩
abbrev S768x3072 : Shape := ⟨2, ![768, 3072]⟩
abbrev S3072 : Shape := ⟨1, ![3072]⟩
abbrev S3072x768 : Shape := ⟨2, ![3072, 768]⟩
abbrev S8192x768 : Shape := ⟨2, ![8192, 768]⟩
abbrev S8192x2304 : Shape := ⟨2, ![8192, 2304]⟩
abbrev S1024x768 : Shape := ⟨2, ![1024, 768]⟩
abbrev S1024x2304 : Shape := ⟨2, ![1024, 2304]⟩
abbrev S1x768 : Shape := ⟨2, ![1, 768]⟩
abbrev S1x1536 : Shape := ⟨2, ![1, 1536]⟩
abbrev S1x2304 : Shape := ⟨2, ![1, 2304]⟩
abbrev S128x768 : Shape := ⟨2, ![128, 768]⟩
abbrev S128 : Shape := ⟨1, ![128]⟩
abbrev S128x1 : Shape := ⟨2, ![128, 1]⟩
abbrev S128x2304 : Shape := ⟨2, ![128, 2304]⟩
abbrev S4x2048x2304 : Shape := ⟨3, ![4, 2048, 2304]⟩
abbrev S1x2048x128 : Shape := ⟨3, ![1, 2048, 128]⟩
abbrev S2048x256 : Shape := ⟨2, ![2048, 256]⟩
abbrev S2048x128 : Shape := ⟨2, ![2048, 128]⟩
abbrev S2048x64 : Shape := ⟨2, ![2048, 64]⟩
abbrev S2048x2048 : Shape := ⟨2, ![2048, 2048]⟩
abbrev S2048x1 : Shape := ⟨2, ![2048, 1]⟩
abbrev S256x768 : Shape := ⟨2, ![256, 768]⟩
abbrev S256 : Shape := ⟨1, ![256]⟩
abbrev S256x1 : Shape := ⟨2, ![256, 1]⟩
abbrev S256x3072 : Shape := ⟨2, ![256, 3072]⟩

abbrev nBuf : Space → Nat
  | .hbm => 23
  | .vmem => 23
  | .smem => 0
  | _ => 0

abbrev bufTy : (tb : Table) → Fin (tcTables nBuf tb) → BufTy
  | .hbm, ⟨0, _⟩ => ⟨S4x2048x768, .f32⟩
  | .hbm, ⟨1, _⟩ => ⟨S768, .f32⟩
  | .hbm, ⟨2, _⟩ => ⟨S768, .f32⟩
  | .hbm, ⟨3, _⟩ => ⟨S768x2304, .f32⟩
  | .hbm, ⟨4, _⟩ => ⟨S2304, .f32⟩
  | .hbm, ⟨5, _⟩ => ⟨S768x768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S768x3072, .f32⟩
  | .hbm, ⟨10, _⟩ => ⟨S3072, .f32⟩
  | .hbm, ⟨11, _⟩ => ⟨S3072x768, .f32⟩
  | .hbm, ⟨12, _⟩ => ⟨S768, .f32⟩
  | .hbm, ⟨13, _⟩ => ⟨S8192x768, .f32⟩
  | .hbm, ⟨14, _⟩ => ⟨S8192x2304, .bf16⟩
  | .hbm, ⟨15, _⟩ => ⟨S4x2048x2304, .bf16⟩
  | .hbm, ⟨16, _⟩ => ⟨S4x2048x768, .bf16⟩
  | .hbm, ⟨17, _⟩ => ⟨S8192x768, .bf16⟩
  | .hbm, ⟨18, _⟩ => ⟨S768x768, .bf16⟩
  | .hbm, ⟨19, _⟩ => ⟨S768x3072, .bf16⟩
  | .hbm, ⟨20, _⟩ => ⟨S3072x768, .bf16⟩
  | .hbm, ⟨21, _⟩ => ⟨S8192x768, .f32⟩
  | .hbm, ⟨22, _⟩ => ⟨S4x2048x768, .f32⟩
  | .local _ .vmem, ⟨0, _⟩ => ⟨S1024x768, .f32⟩
  | .local _ .vmem, ⟨1, _⟩ => ⟨S1024x768, .f32⟩
  | .local _ .vmem, ⟨2, _⟩ => ⟨S768x2304, .f32⟩
  | .local _ .vmem, ⟨3, _⟩ => ⟨S1024x2304, .bf16⟩
  | .local _ .vmem, ⟨4, _⟩ => ⟨S1024x2304, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S2048x256, .bf16⟩
  | .local _ .vmem, ⟨14, _⟩ => ⟨S1024x768, .bf16⟩
  | .local _ .vmem, ⟨15, _⟩ => ⟨S1024x768, .bf16⟩
  | .local _ .vmem, ⟨16, _⟩ => ⟨S1024x768, .f32⟩
  | .local _ .vmem, ⟨17, _⟩ => ⟨S1024x768, .f32⟩
  | .local _ .vmem, ⟨18, _⟩ => ⟨S768x768, .bf16⟩
  | .local _ .vmem, ⟨19, _⟩ => ⟨S768x3072, .bf16⟩
  | .local _ .vmem, ⟨20, _⟩ => ⟨S3072x768, .bf16⟩
  | .local _ .vmem, ⟨21, _⟩ => ⟨S1024x768, .f32⟩
  | .local _ .vmem, ⟨22, _⟩ => ⟨S1024x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 6, 1], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S768x768 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S768x3072 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3072x768 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== KernelIdeal.lean ====
variable {F : FTy → Type} [FloatOps F] [Named F]
def κ : String → Option EReal := fun
  | "half_root" => some ((11863283 / 16777216 : ℝ) : EReal)
  | "qscale" => some (((8 * (Real.log 2))⁻¹ : ℝ) : EReal)
  | _ => none
-- ==== Reference.lean ====
abbrev S4x2048x768 : Shape := ⟨3, ![4, 2048, 768]⟩
abbrev S768 : Shape := ⟨1, ![768]⟩
abbrev S768x2304 : Shape := ⟨2, ![768, 2304]⟩
abbrev S2304 : Shape := ⟨1, ![2304]⟩
abbrev S768x768 : Shape := ⟨2, ![768, 768]⟩
abbrev S768x3072 : Shape := ⟨2, ![768, 3072]⟩
abbrev S3072 : Shape := ⟨1, ![3072]⟩
abbrev S3072x768 : Shape := ⟨2, ![3072, 768]⟩
abbrev S_ : Shape := ⟨0, ![]⟩
abbrev S4x2048 : Shape := ⟨2, ![4, 2048]⟩
abbrev S4x2048x1 : Shape := ⟨3, ![4, 2048, 1]⟩
abbrev S1x1x768 : Shape := ⟨3, ![1, 1, 768]⟩
abbrev S4x2048x2304 : Shape := ⟨3, ![4, 2048, 2304]⟩
abbrev S1x1x2304 : Shape := ⟨3, ![1, 1, 2304]⟩
abbrev S4x2048x3x12x64 : Shape := ⟨5, ![4, 2048, 3, 12, 64]⟩
abbrev S3x4x12x2048x64 : Shape := ⟨5, ![3, 4, 12, 2048, 64]⟩
abbrev S1x4x12x2048x64 : Shape := ⟨5, ![1, 4, 12, 2048, 64]⟩
abbrev S4x12x2048x64 : Shape := ⟨4, ![4, 12, 2048, 64]⟩
abbrev S4x12x64x2048 : Shape := ⟨4, ![4, 12, 64, 2048]⟩
abbrev S4x12x2048x2048 : Shape := ⟨4, ![4, 12, 2048, 2048]⟩
abbrev S4x12x2048 : Shape := ⟨3, ![4, 12, 2048]⟩
abbrev S4x12x2048x1 : Shape := ⟨4, ![4, 12, 2048, 1]⟩
abbrev S4x2048x12x64 : Shape := ⟨4, ![4, 2048, 12, 64]⟩
abbrev S4x2048x3072 : Shape := ⟨3, ![4, 2048, 3072]⟩
abbrev S1x1x3072 : Shape := ⟨3, ![1, 1, 3072]⟩

abbrev nBuf : Space → Nat
  | .hbm => 128
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S768, .f32⟩
  | .hbm, ⟨2, _⟩ => ⟨S768, .f32⟩
  | .hbm, ⟨3, _⟩ => ⟨S768x2304, .f32⟩
  | .hbm, ⟨4, _⟩ => ⟨S2304, .f32⟩
  | .hbm, ⟨5, _⟩ => ⟨S768x768, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S768x3072, .f32⟩
  | .hbm, ⟨10, _⟩ => ⟨S3072, .f32⟩
  | .hbm, ⟨11, _⟩ => ⟨S3072x768, .f32⟩
  | .hbm, ⟨12, _⟩ => ⟨S768, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x768, .f32⟩
  | .hbm, ⟨20, _⟩ => ⟨S4x2048x768, .f32⟩
  | .hbm, ⟨21, _⟩ => ⟨S4x2048x768, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x768, .f32⟩
  | .hbm, ⟨29, _⟩ => ⟨S4x2048x768, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x1, .f32⟩
  | .hbm, ⟨34, _⟩ => ⟨S4x2048x768, .f32⟩
  | .hbm, ⟨35, _⟩ => ⟨S4x2048x768, .f32⟩
  | .hbm, ⟨36, _⟩ => ⟨S1x1x768, .f32⟩
  | .hbm, ⟨37, _⟩ => ⟨S4x2048x768, .f32⟩
  | .hbm, ⟨38, _⟩ => ⟨S4x2048x768, .f32⟩
  | .hbm, ⟨39, _⟩ => ⟨S1x1x768, .f32⟩
  | .hbm, ⟨40, _⟩ => ⟨S4x2048x768, .f32⟩
  | .hbm, ⟨41, _⟩ => ⟨S4x2048x768, .f32⟩
  | .hbm, ⟨42, _⟩ => ⟨S4x2048x2304, .f32⟩
  | .hbm, ⟨43, _⟩ => ⟨S1x1x2304, .f32⟩
  | .hbm, ⟨44, _⟩ => ⟨S4x2048x2304, .f32⟩
  | .hbm, ⟨45, _⟩ => ⟨S4x2048x2304, .f32⟩
  | .hbm, ⟨46, _⟩ => ⟨S4x2048x3x12x64, .f32⟩
  | .hbm, ⟨47, _⟩ => ⟨S3x4x12x2048x64, .f32⟩
  | .hbm, ⟨48, _⟩ => ⟨S1x4x12x2048x64, .f32⟩
  | .hbm, ⟨49, _⟩ => ⟨S4x12x2048x64, .f32⟩
  | .hbm, ⟨50, _⟩ => ⟨S1x4x12x2048x64, .f32⟩
  | .hbm, ⟨51, _⟩ => ⟨S4x12x2048x64, .f32⟩
  | .hbm, ⟨52, _⟩ => ⟨S1x4x12x2048x64, .f32⟩
  | .hbm, ⟨53, _⟩ => ⟨S4x12x2048x64, .f32⟩
  | .hbm, ⟨54, _⟩ => ⟨S_, .f32⟩
  | .hbm, ⟨55, _⟩ => ⟨S4x12x2048x64, .f32⟩
  | .hbm, ⟨56, _⟩ => ⟨S4x12x2048x64, .f32⟩
  | .hbm, ⟨57, _⟩ => ⟨S4x12x64x2048, .f32⟩
  | .hbm, ⟨58, _⟩ => ⟨S4x12x2048x2048, .f32⟩
  | .hbm, ⟨59, _⟩ => ⟨S_, .f32⟩
  | .hbm, ⟨60, _⟩ => ⟨S4x12x2048, .f32⟩
  | .hbm, ⟨61, _⟩ => ⟨S_, .f32⟩
  | .hbm, ⟨62, _⟩ => ⟨S4x12x2048, .f32⟩
  | .hbm, ⟨63, _⟩ => ⟨S4x12x2048, .f32⟩
  | .hbm, ⟨64, _⟩ => ⟨S4x12x2048x1, .f32⟩
  | .hbm, ⟨65, _⟩ => ⟨S4x12x2048x2048, .f32⟩
  | .hbm, ⟨66, _⟩ => ⟨S4x12x2048x2048, .f32⟩
  | .hbm, ⟨67, _⟩ => ⟨S4x12x2048x2048, .f32⟩
  | .hbm, ⟨68, _⟩ => ⟨S_, .f32⟩
  | .hbm, ⟨69, _⟩ => ⟨S4x12x2048, .f32⟩
  | .hbm, ⟨70, _⟩ => ⟨S4x12x2048x1, .f32⟩
  | .hbm, ⟨71, _⟩ => ⟨S4x12x2048x2048, .f32⟩
  | .hbm, ⟨72, _⟩ => ⟨S4x12x2048x2048, .f32⟩
  | .hbm, ⟨73, _⟩ => ⟨S4x12x2048x64, .f32⟩
  | .hbm, ⟨74, _⟩ => ⟨S4x2048x12x64, .f32⟩
  | .hbm, ⟨75, _⟩ => ⟨S4x2048x768, .f32⟩
  | .hbm, ⟨76, _⟩ => ⟨S4x2048x768, .f32⟩
  | .hbm, ⟨77, _⟩ => ⟨S1x1x768, .f32⟩
  | .hbm, ⟨78, _⟩ => ⟨S4x2048x768, .f32⟩
  | .hbm, ⟨79, _⟩ => ⟨S4x2048x768, .f32⟩
  | .hbm, ⟨80, _⟩ => ⟨S4x2048x768, .f32⟩
  | .hbm, ⟨81, _⟩ => ⟨S_, .f32⟩
  | .hbm, ⟨82, _⟩ => ⟨S4x2048, .f32⟩
  | .hbm, ⟨83, _⟩ => ⟨S4x2048x1, .f32⟩
  | .hbm, ⟨84, _⟩ => ⟨S_, .f32⟩
  | .hbm, ⟨85, _⟩ => ⟨S4x2048x1, .f32⟩
  | .hbm, ⟨86, _⟩ => ⟨S4x2048x1, .f32⟩
  | .hbm, ⟨87, _⟩ => ⟨S4x2048x768, .f32⟩
  | .hbm, ⟨88, _⟩ => ⟨S4x2048x768, .f32⟩
  | .hbm, ⟨89, _⟩ => ⟨S4x2048x768, .f32⟩
  | .hbm, ⟨90, _⟩ => ⟨S_, .f32⟩
  | .hbm, ⟨91, _⟩ => ⟨S4x2048, .f32⟩
  | .hbm, ⟨92, _⟩ => ⟨S4x2048x1, .f32⟩
  | .hbm, ⟨93, _⟩ => ⟨S_, .f32⟩
  | .hbm, ⟨94, _⟩ => ⟨S4x2048x1, .f32⟩
  | .hbm, ⟨95, _⟩ => ⟨S4x2048x1, .f32⟩
  | .hbm, ⟨96, _⟩ => ⟨S4x2048x768, .f32⟩
  | .hbm, ⟨97, _⟩ => ⟨S4x2048x768, .f32⟩
  | .hbm, ⟨98, _⟩ => ⟨S_, .f32⟩
  | .hbm, ⟨99, _⟩ => ⟨S4x2048x1, .f32⟩
  | .hbm, ⟨100, _⟩ => ⟨S4x2048x1, .f32⟩
  | .hbm, ⟨101, _⟩ => ⟨S4x2048x1, .f32⟩
  | .hbm, ⟨102, _⟩ => ⟨S4x2048x768, .f32⟩
  | .hbm, ⟨103, _⟩ => ⟨S4x2048x768, .f32⟩
  | .hbm, ⟨104, _⟩ => ⟨S1x1x768, .f32⟩
  | .hbm, ⟨105, _⟩ => ⟨S4x2048x768, .f32⟩
  | .hbm, ⟨106, _⟩ => ⟨S4x2048x768, .f32⟩
  | .hbm, ⟨107, _⟩ => ⟨S1x1x768, .f32⟩
  | .hbm, ⟨108, _⟩ => ⟨S4x2048x768, .f32⟩
  | .hbm, ⟨109, _⟩ => ⟨S4x2048x768, .f32⟩
  | .hbm, ⟨110, _⟩ => ⟨S4x2048x3072, .f32⟩
  | .hbm, ⟨111, _⟩ => ⟨S1x1x3072, .f32⟩
  | .hbm, ⟨112, _⟩ => ⟨S4x2048x3072, .f32⟩
  | .hbm, ⟨113, _⟩ => ⟨S4x2048x3072, .f32⟩
  | .hbm, ⟨114, _⟩ => ⟨S_, .f32⟩
  | .hbm, ⟨115, _⟩ => ⟨S4x2048x3072, .f32⟩
  | .hbm, ⟨116, _⟩ => ⟨S4x2048x3072, .f32⟩
  | .hbm, ⟨117, _⟩ => ⟨S4x2048x3072, .f32⟩
  | .hbm, ⟨118, _⟩ => ⟨S_, .f32⟩
  | .hbm, ⟨119, _⟩ => ⟨S4x2048x3072, .f32⟩
  | .hbm, ⟨120, _⟩ => ⟨S4x2048x3072, .f32⟩
  | .hbm, ⟨121, _⟩ => ⟨S4x2048x3072, .f32⟩
  | .hbm, ⟨122, _⟩ => ⟨S4x2048x3072, .f32⟩
  | .hbm, ⟨123, _⟩ => ⟨S4x2048x768, .f32⟩
  | .hbm, ⟨124, _⟩ => ⟨S1x1x768, .f32⟩
  | .hbm, ⟨125, _⟩ => ⟨S4x2048x768, .f32⟩
  | .hbm, ⟨126, _⟩ => ⟨S4x2048x768, .f32⟩
  | .hbm, ⟨127, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_v67 : Ref sig .tc := ⟨.hbm, 92, rfl⟩
abbrev main_cst_11 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_13 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_14 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩

abbrev nD : Nat := 1
abbrev τ : Topo := Topo.v7x

variable {F : FTy → Type} [FloatOps F]
-- ==== Proof.Run.lean ====
/-
  The kernel's run: the result array ends at the contents that the program's segments leave in it, and every
  argument array ends as launched.
-/
module

public import proofs.«01_k».proof.Defs
public import proofs.«01_k».proof.Proof.Gen.KernelIdeal.Frame

@[expose] public section

set_option maxRecDepth 16384

noncomputable section

namespace Cert.Proof.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends with the result array at the last boundary's contents (`W7`) and with the thirteen
    argument arrays as launched. -/
theorem run : θ_run defs (onTc (τ := τ) (main (F := F))) ⟨m, fun _ => 0, ρ⟩ (fun r => ∀ c : Dev nD,
      r.2.mem ((c.tc : Thread nD τ).loc main_v9) = W7 m ρ c (Proc.devRef .tc main_v9)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c => ⟨h c _ (mem_uc main_v9 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c)⟩)

end Cert.Proof.Run

end
-- ==== Proof.Spec.lean ====
/-
  The two programs' results as plain formulas over the extended reals: of one row, one query or one element each.
  The names ending in `K` are the kernel's formulas, those ending in `R` the reference's.
-/
module

public import proofs.«01_k».proof.Defs
public import Idealize.ShloMosaic.PureOps.Ideal.Laws

@[expose] public section

noncomputable section

namespace Cert.Proof.Spec

open Idealize.ShloMosaic

/-- The literal 768 (a row's length), as both programs write it. -/
def rowLen : EReal := Ideal.ofBits .f32 0x44400000#32
/-- The literal under the normalization's root. -/
def eps : EReal := Ideal.ofBits .f32 0x3727C5AC#32
/-- The literal 1/8, the reference's scale of the queries. -/
def eighth : EReal := Ideal.ofBits .f32 0x3E000000#32
/-- The literal 112, the kernel's bound on a score. -/
def bound : EReal := Ideal.ofBits .bf16 0x42E0#16
/-- The reference's literal for the root of one half, under its error function. -/
def halfRoot : EReal := Ideal.ofBits .f32 0x3F3504F3#32
/-- The literal one half, as the kernel and as the reference write it. -/
def halfK : EReal := Ideal.ofBits .bf16 0x3F00#16
def halfR : EReal := Ideal.ofBits .f32 0x3F000000#32
/-- The kernel's scale of the query columns, by its name. -/
def qscale : EReal := Named.named (F := Ideal) (φ := .f32) Cert.KernelIdeal.κ "qscale" 0x3E38AA3B#32
/-- The kernel's constant under the error function, by its name. -/
def halfRootK : EReal := Named.named (F := Ideal) (φ := .bf16) Cert.KernelIdeal.κ "half_root" 0x3F35#16

/-- A row's mean. -/
def mean (x : Fin 768 → EReal) : EReal := Ideal.div (∑ k, x k) rowLen
/-- A row's variance. -/
def var (x : Fin 768 → EReal) : EReal := Ideal.div (∑ k, (x k - mean x) * (x k - mean x)) rowLen
/-- A row normalized, as the kernel does it: times the inverse root. -/
def normK (x : Fin 768 → EReal) (k : Fin 768) : EReal := (x k - mean x) * Ideal.rsqrt (var x + eps)
/-- A row normalized, as the reference does it: divided by the root, then gain and offset. -/
def normR (g b x : Fin 768 → EReal) (k : Fin 768) : EReal :=
  Ideal.div (x k - mean x) (Ideal.sqrt (var x + eps)) * g k + b k

/-- An element of the kernel's first result: the normalized row times the weights, the first 768 columns of which are scaled. -/
def qkvK (x : Fin 768 → EReal) (w : Fin 768 → Fin 2304 → EReal) (l : Fin 2304) : EReal :=
  ∑ k, normK x k * (w k l * if (l : ℕ) < 768 then qscale else 1)
/-- An element of the reference's fused projection. -/
def qkvR (g b x : Fin 768 → EReal) (w : Fin 768 → Fin 2304 → EReal) (bw : Fin 2304 → EReal) (l : Fin 2304) : EReal :=
  (∑ k, normR g b x k * w k l) + bw l

/-- The kernel's unnormalized weight of the key `k` for the query `q`. -/
def wgtK (q k : Fin 64 → EReal) : EReal := Ideal.exp2 (min (∑ e, q e * k e) bound)
/-- One element of one head's result in the kernel: the query `q`, the keys `k`, one column `v` of the values. -/
def attnK (q : Fin 64 → EReal) (k : Fin 2048 → Fin 64 → EReal) (v : Fin 2048 → EReal) : EReal :=
  (∑ u, wgtK q (k u) * v u) * Ideal.div 1 (∑ u, wgtK q (k u))
/-- The reference's score of the key `k` for the query `q`. -/
def scoreR (q k : Fin 64 → EReal) : EReal := ∑ e, q e * eighth * k e
/-- The greatest score of the query `q`, as the reference takes it. -/
def topR (q : Fin 64 → EReal) (k : Fin 2048 → Fin 64 → EReal) : EReal :=
  max ⊥ (Finset.univ.fold max ⊥ fun u => scoreR q (k u))
/-- The reference's unnormalized weight of the key `u`. -/
def wgtR (q : Fin 64 → EReal) (k : Fin 2048 → Fin 64 → EReal) (u : Fin 2048) : EReal :=
  Ideal.exp (scoreR q (k u) - topR q k)
/-- One element of one head's result in the reference. -/
def attnR (q : Fin 64 → EReal) (k : Fin 2048 → Fin 64 → EReal) (v : Fin 2048 → EReal) : EReal :=
  ∑ u, Ideal.div (wgtR q k u) (∑ u', wgtR q k u') * v u

/-- The kernel's activation. -/
def geluK (u : EReal) : EReal := halfK * u * (1 + Ideal.erf (u * halfRootK))
/-- The reference's activation. -/
def geluR (u : EReal) : EReal := halfR * u * Ideal.erfc (-u * halfRoot)

/-- The kernel's row after the attention's projection and the first residual. -/
def resK (a x : Fin 768 → EReal) (wp : Fin 768 → Fin 768 → EReal) (j : Fin 768) : EReal := (∑ k, a k * wp k j) + x j
/-- The reference's row after the attention's projection and the first residual. -/
def resR (a x : Fin 768 → EReal) (wp : Fin 768 → Fin 768 → EReal) (bp : Fin 768 → EReal) (j : Fin 768) : EReal :=
  x j + ((∑ k, a k * wp k j) + bp j)
/-- The kernel's last call, of one row `a` of the attention's result and the row `x` of the input. -/
def mlpK (a x : Fin 768 → EReal) (wp : Fin 768 → Fin 768 → EReal) (w1 : Fin 768 → Fin 3072 → EReal)
    (w2 : Fin 3072 → Fin 768 → EReal) (j : Fin 768) : EReal :=
  resK a x wp j + ∑ n, geluK (∑ k, normK (resK a x wp) k * w1 k n) * w2 n j
/-- The reference's second half, of one row `h` after the first residual. -/
def mlpR (g b h : Fin 768 → EReal) (w1 : Fin 768 → Fin 3072 → EReal) (b1 : Fin 3072 → EReal)
    (w2 : Fin 3072 → Fin 768 → EReal) (b2 : Fin 768 → EReal) (j : Fin 768) : EReal :=
  h j + ((∑ n, geluR ((∑ k, normR g b h k * w1 k n) + b1 n) * w2 n j) + b2 j)

/-- The column of the fused projection that holds coordinate `e` of the head of column `j`: `o` is 0 for queries, 768 for
    keys. -/
def headCol (o : ℕ) (ho : o ≤ 768) (j : Fin 768) (e : Fin 64) : Fin 2304 :=
  ⟨o + 64 * ((j : ℕ) / 64) + e, by have := j.isLt; have := e.isLt; omega⟩
/-- The column of the fused projection that holds the values of column `j`. -/
def valCol (j : Fin 768) : Fin 2304 := ⟨1536 + j, by have := j.isLt; omega⟩

/-- The kernel's attention over the fused projection `p` of one batch, at query `t` and column `j`. -/
def headsK (p : Fin 2048 → Fin 2304 → EReal) (t : Fin 2048) (j : Fin 768) : EReal :=
  attnK (fun e => p t (headCol 0 (by decide) j e)) (fun u e => p u (headCol 768 (by decide) j e)) fun u => p u (valCol j)
/-- The reference's. -/
def headsR (p : Fin 2048 → Fin 2304 → EReal) (t : Fin 2048) (j : Fin 768) : EReal :=
  attnR (fun e => p t (headCol 0 (by decide) j e)) (fun u e => p u (headCol 768 (by decide) j e)) fun u => p u (valCol j)

/-- The kernel's result for one batch `x`. -/
def blockK (x : Fin 2048 → Fin 768 → EReal) (wq : Fin 768 → Fin 2304 → EReal) (wp : Fin 768 → Fin 768 → EReal)
    (w1 : Fin 768 → Fin 3072 → EReal) (w2 : Fin 3072 → Fin 768 → EReal) (t : Fin 2048) (j : Fin 768) : EReal :=
  mlpK (headsK (fun s => qkvK (x s) wq) t) (x t) wp w1 w2 j
/-- The reference's result for one batch `x`. -/
def blockR (x : Fin 2048 → Fin 768 → EReal) (g1 b1 : Fin 768 → EReal) (wq : Fin 768 → Fin 2304 → EReal)
    (bq : Fin 2304 → EReal) (wp : Fin 768 → Fin 768 → EReal) (bp g2 b2 : Fin 768 → EReal)
    (w1 : Fin 768 → Fin 3072 → EReal) (c1 : Fin 3072 → EReal) (w2 : Fin 3072 → Fin 768 → EReal) (c2 : Fin 768 → EReal)
    (t : Fin 2048) (j : Fin 768) : EReal :=
  mlpR g2 b2 (resR (headsR (fun s => qkvR g1 b1 (x s) wq bq) t) (x t) wp bp) w1 c1 w2 c2 j

end Cert.Proof.Spec

end
-- ==== Proof.Blocks.lean ====
/-
  What one chunk of each kernel body computes, at an index: the bodies' payloads as the formulas of Spec.lean.
-/
module

public import proofs.«01_k».proof.Proof.Spec
public import proofs.«01_k».proof.Proof.Gen.KernelIdeal.Skeleton
public import Idealize.ShloMosaic.Lib.Pointwise

@[expose] public section

set_option maxRecDepth 16384

noncomputable section

namespace Cert.Proof.Blocks

open Idealize.ShloMosaic Cert.KernelIdeal Cert.Proof.Spec

/-- The first body's chunk: rows normalized, times the scaled weights. -/
theorem qkv_chunk (w : Vec Ideal S768x2304 .f32) (x : Vec Ideal S128x768 .f32) (r : Fin 128) (l : Fin 2304) :
    Gen.k0_pay10 (F := Ideal) (Gen.k0_pay3 w) x (ix2 r l)
      = qkvK (fun k => x (ix2 r k)) (fun k l => w (ix2 k l)) l := by
  pointwise [Gen.k0_pay10, Gen.k0_pay3]
  rfl

/-- The second body: two heads' results, the divisor read off a column of ones behind the values. -/
theorem attn_chunk (q k : Vec Ideal S1x2048x128 .bf16) (v : Vec Ideal S2048x256 .bf16) (h1 : ∀ u, v (ix2 u 128) = 1)
    (t : Fin 2048) (d : Fin 128) :
    Gen.k1_pay4 (F := Ideal) q k v (ix2 t d)
      = attnK (fun e => q (ix3 0 t ⟨64 * ((d : ℕ) / 64) + e, by have := d.isLt; have := e.isLt; omega⟩))
          (fun u e => k (ix3 0 u ⟨64 * ((d : ℕ) / 64) + e, by have := d.isLt; have := e.isLt; omega⟩))
          (fun u => v (ix2 u ⟨d, by have := d.isLt; omega⟩)) := by
  have hd := d.isLt
  pointwise [Gen.k1_pay4]
  simp only [h1, mul_one]
  split
  · rename_i h
    have e0 : (d : ℕ) / 64 = 0 := by omega
    simp only [attnK, wgtK, bound, e0, Nat.mul_zero, Nat.zero_add]
    rfl
  · rename_i h
    have e0 : (d : ℕ) / 64 = 1 := by omega
    have e1 : 64 + ((d : ℕ) - 64) = d := by omega
    simp only [attnK, wgtK, bound, e0, e1, Nat.mul_one]
    rfl

/-- The third body's chunk: projection and residual, then the normalized row through the two-layer perceptron. -/
theorem mlp_chunk (a : Vec Ideal S256x768 .bf16) (wp : Vec Ideal S768x768 .bf16) (x : Vec Ideal S256x768 .f32)
    (w1 : Vec Ideal S768x3072 .bf16) (w2 : Vec Ideal S3072x768 .bf16) (r : Fin 256) (j : Fin 768) :
    Gen.k2_pay19 (F := Ideal) (Gen.k2_pay4 a wp x) (Gen.k2_pay14 (Gen.k2_pay5 a wp x) w1) w2 (ix2 r j)
      = mlpK (fun k => a (ix2 r k)) (fun k => x (ix2 r k)) (fun k l => wp (ix2 k l)) (fun k n => w1 (ix2 k n))
          (fun n l => w2 (ix2 n l)) j := by
  pointwise [Gen.k2_pay19, Gen.k2_pay14, Gen.k2_pay5, Gen.k2_pay4]
  rfl

end Cert.Proof.Blocks

end
-- ==== Proof.Outs.lean ====
/-
  What one grid point of each kernel body leaves in its output block, at an index, of the input blocks.
-/
module

public import proofs.«01_k».proof.Proof.Blocks
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.Proof.Outs

open Idealize.ShloMosaic Idealize.ShloMosaic.TcCoe Cert.KernelIdeal Cert.KernelIdeal.Gen Cert.Proof.Spec

/-- A 128-row chunk of the first body, its rows taken from row `off` on. -/
theorem qkv_piece (off : ℕ) (inb : ∀ a, (![off, 0] : Fin 2 → ℕ) a + S128x768.size a ≤ S1024x768.size a)
    (x0 : Vec Ideal S1024x768 .f32) (x1 : Vec Ideal S768x2304 .f32) (x : S128x2304.Idx) (r : Fin 1024) (l : Fin 2304)
    (h0 : (r : ℕ) = off + (x 0 : ℕ)) (h1 : (l : ℕ) = (x 1 : ℕ)) :
    k0_pay10 (F := Ideal) (k0_pay3 x1) (View.ld x0 (Rect.unit (s := S1024x768) ![off, 0] S128x768.size inb)) x
      = qkvK (fun k => x0 (ix2 r k)) (fun k l => x1 (ix2 k l)) l := by
  obtain ⟨a, b, rfl⟩ : ∃ (a : Fin 128) (b : Fin 2304), x = ix2 a b := ⟨x 0, x 1, eq_ix2 x⟩
  obtain rfl : l = b := Fin.ext h1
  rw [Blocks.qkv_chunk]
  congr 1
  funext k
  refine View.ld_unit_apply_of x0 _ _ inb (ix2 a k) (ix2 r k) fun c => ?_
  match c with
  | 0 => exact h0
  | 1 => exact (Nat.zero_add _).symm

/-- The first body's output block. -/
theorem out0_apply (x0 : Vec Ideal S1024x768 .f32) (x1 : Vec Ideal S768x2304 .f32) (r : Fin 1024) (l : Fin 2304) :
    out0_2 (F := Ideal) x0 x1 (ix2 r l) = qkvK (fun k => x0 (ix2 r k)) (fun k l => x1 (ix2 k l)) l := by
  have hw : View.ld x1 r0_0 = x1 := View.ld_unit_lit _ x1 (by decide)
  unfold out0_2 k0_pay18
  rw [hw]
  canon_tiles x h
  all_goals exact qkv_piece _ (by decide) x0 x1 x r l (by simpa using h0) (by simpa using h1)

/-- A 256-row chunk of the third body, its rows taken from row `off` on. -/
theorem mlp_piece (off : ℕ) (inb : ∀ a, (![off, 0] : Fin 2 → ℕ) a + S256x768.size a ≤ S1024x768.size a)
    (x0 : Vec Ideal S1024x768 .bf16) (x1 : Vec Ideal S1024x768 .f32) (wp : Vec Ideal S768x768 .bf16)
    (w1 : Vec Ideal S768x3072 .bf16) (w2 : Vec Ideal S3072x768 .bf16) (x : S256x768.Idx) (r : Fin 1024) (j : Fin 768)
    (h0 : (r : ℕ) = off + (x 0 : ℕ)) (h1 : (j : ℕ) = (x 1 : ℕ)) :
    k2_pay19 (F := Ideal)
        (k2_pay4 (View.ld x0 (Rect.unit (s := S1024x768) ![off, 0] S256x768.size inb)) wp
          (View.ld x1 (Rect.unit (s := S1024x768) ![off, 0] S256x768.size inb)))
        (k2_pay14 (k2_pay5 (View.ld x0 (Rect.unit (s := S1024x768) ![off, 0] S256x768.size inb)) wp
          (View.ld x1 (Rect.unit (s := S1024x768) ![off, 0] S256x768.size inb))) w1) w2 x
      = mlpK (fun k => x0 (ix2 r k)) (fun k => x1 (ix2 r k)) (fun k l => wp (ix2 k l)) (fun k n => w1 (ix2 k n))
          (fun n l => w2 (ix2 n l)) j := by
  obtain ⟨a, b, rfl⟩ : ∃ (a : Fin 256) (b : Fin 768), x = ix2 a b := ⟨x 0, x 1, eq_ix2 x⟩
  obtain rfl : j = b := Fin.ext h1
  have hi : ∀ (k : Fin 768) (c : Fin 2), ((ix2 r k : S1024x768.Idx) c : ℕ) = (![off, 0] : Fin 2 → ℕ) c + (ix2 a k : S256x768.Idx) c := by
    intro k c
    match c with
    | 0 => exact h0
    | 1 => exact (Nat.zero_add _).symm
  rw [Blocks.mlp_chunk]
  congr 1
  · funext k; exact View.ld_unit_apply_of x0 _ _ inb (ix2 a k) (ix2 r k) (hi k)
  · funext k; exact View.ld_unit_apply_of x1 _ _ inb (ix2 a k) (ix2 r k) (hi k)

/-- The third body's output block. -/
theorem out2_apply (x0 : Vec Ideal S1024x768 .bf16) (x1 : Vec Ideal S1024x768 .f32) (wp : Vec Ideal S768x768 .bf16)
    (w1 : Vec Ideal S768x3072 .bf16) (w2 : Vec Ideal S3072x768 .bf16) (r : Fin 1024) (j : Fin 768) :
    out2_5 (F := Ideal) x0 x1 wp w1 w2 (ix2 r j)
      = mlpK (fun k => x0 (ix2 r k)) (fun k => x1 (ix2 r k)) (fun k l => wp (ix2 k l)) (fun k n => w1 (ix2 k n))
          (fun n l => w2 (ix2 n l)) j := by
  have e1 : View.ld wp r2_1 = wp := View.ld_unit_lit _ wp (by decide)
  have e2 : View.ld w1 r2_5 = w1 := View.ld_unit_lit _ w1 (by decide)
  have e3 : View.ld w2 r2_6 = w2 := View.ld_unit_lit _ w2 (by decide)
  unfold out2_5 k2_pay20
  rw [e1, e2, e3]
  canon_tiles x h
  all_goals exact mlp_piece _ (by decide) x0 x1 wp w1 w2 x r j (by simpa using h0) (by simpa using h1)

/-- The values' scratch: the values in its first 128 columns, ones behind them. -/
abbrev valOnes (v : Vec Ideal S1x2048x128 .bf16) : List (View.Piece (Elt Ideal) S2048x256 .bf16) :=
  [⟨Rect.unit ![0, 128] ![2048, 128] inb_S2048x256_S2048x128_0_128, (k1_pay3 : FVec Ideal S2048x128 .bf16)⟩,
    ⟨Rect.unit ![0, 0] ![2048, 128] inb_S2048x256_S2048x128_0_0, (k1_pay2 v : FVec Ideal S2048x128 .bf16)⟩]

/-- The two stores fill the scratch. -/
theorem cover_valOnes (v : Vec Ideal S1x2048x128 .bf16) (y : S2048x256.Idx) : ∃ p ∈ valOnes v, y ∈ p.1.set :=
  View.cover_of_tiled (valOnes v) ![2048, 128] (by rfl) y

/-- A column of the scratch below 128 holds the values. -/
theorem valOnes_val (v : Vec Ideal S1x2048x128 .bf16) (u : Fin 2048) (d : Fin 128) :
    View.canon (valOnes v) (ix2 u ⟨d, by have := d.isLt; omega⟩) = v (ix3 0 u d) := by
  have hd := d.isLt
  canon_tiles x h using cover_valOnes v _
  · simp at h1; omega
  · obtain ⟨a, b, rfl⟩ : ∃ (a : Fin 2048) (b : Fin 128), x = ix2 a b := ⟨x 0, x 1, eq_ix2 x⟩
    obtain rfl : u = a := Fin.ext (by simpa using h0)
    obtain rfl : d = b := Fin.ext (by simpa using h1)
    pointwise [k1_pay2]

/-- Column 128 of the scratch holds ones. -/
theorem valOnes_one (v : Vec Ideal S1x2048x128 .bf16) (u : Fin 2048) : View.canon (valOnes v) (ix2 u 128) = 1 := by
  canon_tiles x h using cover_valOnes v _
  · obtain ⟨a, b, rfl⟩ : ∃ (a : Fin 2048) (b : Fin 128), x = ix2 a b := ⟨x 0, x 1, eq_ix2 x⟩
    pointwise [k1_pay3]
  · simp at h1; omega

/-- The second body's output block: two heads' results of the query, key and value blocks. -/
theorem out1_apply (V : (c : Dev nD) → (b : Ref sig .tc) → Buf (Elt Ideal) ((c : Thread nD τ).loc b)) (c : Dev nD)
    (t : Fin cfg1.N) (s : Fin 2048) (d : Fin 128) :
    outsAt1 (F := Ideal) V c t (ix3 0 s d)
      = attnK (fun e => iblk1 V c 0 t (ix3 0 s ⟨64 * ((d : ℕ) / 64) + e, by have := d.isLt; have := e.isLt; omega⟩))
          (fun u e => iblk1 V c 1 t (ix3 0 u ⟨64 * ((d : ℕ) / 64) + e, by have := d.isLt; have := e.isLt; omega⟩))
          (fun u => iblk1 V c 2 t (ix3 0 u d)) := by
  unfold outsAt1
  generalize (iblk1 V c 0 t : Vec Ideal S1x2048x128 .bf16) = q
  generalize (iblk1 V c 1 t : Vec Ideal S1x2048x128 .bf16) = k
  generalize (iblk1 V c 2 t : Vec Ideal S1x2048x128 .bf16) = v
  frame_out
  rw [View.readCov_eq_canon_ld _ _ _ (fun j => cover_valOnes v _)]
  erw [View.ld_unit_lit _ _ (by decide)]
  have hp : ∀ w : FVec Ideal S2048x128 .bf16, k1_pay1 w (ix3 0 s d) = w (ix2 s d) := fun w => by pointwise [k1_pay1]
  rw [hp]
  refine (Blocks.attn_chunk q k _ (valOnes_one v) s d).trans ?_
  congr 1
  funext u
  exact valOnes_val v u d

end Cert.Proof.Outs

end
-- ==== Proof.Arrays.lean ====
/-
  What each of the kernel's three calls leaves in its result array, at an index, of the arrays it is entered with.
-/
module

public import proofs.«01_k».proof.Proof.Outs

@[expose] public section

set_option maxRecDepth 16384

noncomputable section

namespace Cert.Proof.Arrays

open Idealize.ShloMosaic Idealize.ShloMosaic.TcCoe Cert.KernelIdeal Cert.KernelIdeal.Gen Cert.Proof.Spec

variable (V : (c : Dev nD) → (b : Ref sig .tc) → Buf (Elt Ideal) ((c : Thread nD τ).loc b)) (c : Dev nD)

/-- The first call's block indices: rows by the point, the weights whole. -/
theorem index0 : ∀ t : Fin cfg0.N, win0_0.index t = ![t.val, 0] ∧ win0_1.index t = ![0, 0] ∧ win0_2.index t = ![t.val, 0] := by
  decide +kernel

/-- The first call's result: the fused projection of every row. -/
theorem arr0 (x : Vec Ideal S8192x768 .f32) (hx : V c main_v0 = x) (w : Vec Ideal S768x2304 .f32) (hw : V c main_arg3 = w) :
    (dat0 V c).arrAt 2 cfg0.N
      = fun i : S8192x2304.Idx => qkvK (fun k => x (ix2 (i 0) k)) (fun k l => w (ix2 k l)) (i 1) := by
  subst hx hw
  refine (dat0 V c).arrAt_eq_of_covers 2 _ (by decide +kernel) fun t hf y => ?_
  blk_simp
  rw [after0_2]
  obtain ⟨a, b, rfl⟩ : ∃ (a : Fin 1024) (b : Fin 2304), y = ix2 a b := ⟨y 0, y 1, eq_ix2 y⟩
  refine (Outs.out0_apply _ _ a b).trans ?_
  congr 1
  · funext k
    blk_ext [iblk0, index0 t]
  · funext k l
    blk_ext [iblk0, index0 t]
  · apply Fin.ext
    blk_simp [index0 t]

/-- The second call's block indices: the batch and the pair of heads by the point. -/
theorem index1 : ∀ t : Fin cfg1.N, win1_0.index t = ![t.val / 6, 0, t.val % 6] ∧ win1_1.index t = ![t.val / 6, 0, t.val % 6 + 6]
    ∧ win1_2.index t = ![t.val / 6, 0, t.val % 6 + 12] ∧ win1_3.index t = ![t.val / 6, 0, t.val % 6] := by
  decide +kernel

/-- The second call's result: every head's attention over the fused projection. -/
theorem arr1 (p : Vec Ideal S4x2048x2304 .bf16) (hp : V c main_v2 = p) :
    (dat1 V c).arrAt 3 cfg1.N
      = fun i : S4x2048x768.Idx => headsK (fun s l => p (ix3 (i 0) s l)) (i 1) (i 2) := by
  subst hp
  refine (dat1 V c).arrAt_eq_of_covers 3 _ (by decide +kernel) fun t hf y => ?_
  blk_simp
  rw [after1_3]
  obtain ⟨a, s, d, rfl⟩ : ∃ (a : Fin 1) (s : Fin 2048) (d : Fin 128), y = ix3 a s d := ⟨y 0, y 1, y 2, eq_ix3 y⟩
  obtain rfl : a = 0 := Subsingleton.elim _ _
  refine (Outs.out1_apply V c t s d).trans ?_
  have ht : (t : ℕ) < 24 := t.isLt
  have hd := d.isLt
  have e2 : (((win1_3.blk t).view.emb (ix3 0 s d) 2 : Fin 768) : ℕ) = t.val % 6 * 128 + d := by
    blk_simp [index1 t]
  unfold headsK
  congr 1
  · funext e
    blk_ext [iblk1, index1 t]
    exact (by omega : _ = _).trans (congrArg (fun n => 0 + 64 * (n / 64) + (e : ℕ)) e2.symm)
  · funext u e
    blk_ext [iblk1, index1 t]
    exact (by omega : _ = _).trans (congrArg (fun n => 768 + 64 * (n / 64) + (e : ℕ)) e2.symm)
  · funext u
    blk_ext [iblk1, index1 t]
    exact (by omega : _ = _).trans (congrArg (fun n => 1536 + n) e2.symm)

/-- The third call's block indices: rows by the point, the weights whole. -/
theorem index2 : ∀ t : Fin cfg2.N, win2_0.index t = ![t.val, 0] ∧ win2_1.index t = ![t.val, 0] ∧ win2_2.index t = ![0, 0]
    ∧ win2_3.index t = ![0, 0] ∧ win2_4.index t = ![0, 0] ∧ win2_5.index t = ![t.val, 0] := by
  decide +kernel

/-- The third call's result: projection, residual and perceptron of every row. -/
theorem arr2 (a : Vec Ideal S8192x768 .bf16) (ha : V c main_v4 = a) (x : Vec Ideal S8192x768 .f32) (hx : V c main_v0 = x)
    (wp : Vec Ideal S768x768 .bf16) (hwp : V c main_v5 = wp) (w1 : Vec Ideal S768x3072 .bf16) (hw1 : V c main_v6 = w1)
    (w2 : Vec Ideal S3072x768 .bf16) (hw2 : V c main_v7 = w2) :
    (dat2 V c).arrAt 5 cfg2.N
      = fun i : S8192x768.Idx => mlpK (fun k => a (ix2 (i 0) k)) (fun k => x (ix2 (i 0) k)) (fun k l => wp (ix2 k l))
          (fun k n => w1 (ix2 k n)) (fun n l => w2 (ix2 n l)) (i 1) := by
  subst ha hx hwp hw1 hw2
  refine (dat2 V c).arrAt_eq_of_covers 5 _ (by decide +kernel) fun t hf y => ?_
  blk_simp
  rw [after2_5]
  obtain ⟨r, j, rfl⟩ : ∃ (r : Fin 1024) (j : Fin 768), y = ix2 r j := ⟨y 0, y 1, eq_ix2 y⟩
  refine (Outs.out2_apply _ _ _ _ _ r j).trans ?_
  congr 1
  · funext k
    blk_ext [iblk2, index2 t]
  · funext k
    blk_ext [iblk2, index2 t]
  · funext k l
    blk_ext [iblk2, index2 t]
  · funext k l
    blk_ext [iblk2, index2 t]
  · funext k l
    blk_ext [iblk2, index2 t]
  · apply Fin.ext
    blk_simp [index2 t]

end Cert.Proof.Arrays

end
-- ==== Proof.Result.lean ====
/-
  The kernel's result array after its run, at an index, of the argument arrays: the three calls' arrays chained
  through the host's reshapes and casts.
-/
module

public import proofs.«01_k».proof.Proof.Arrays
public import Idealize.ShloMosaic.Lib.StableHlo.ReadAt

@[expose] public section

set_option maxRecDepth 16384

noncomputable section

namespace Cert.Proof.Result

open Idealize.ShloMosaic Idealize.ShloMosaic.TcCoe Cert.KernelIdeal Cert.KernelIdeal.Gen Cert.Proof.Spec

variable (m : (ℓ : Loc nD τ sig) → Buf (Elt Ideal) ℓ) (ρ : Dev nD → PrngReg) (c : Dev nD)

/-- The argument arrays, each by its role, over coordinates. -/
abbrev argX : Vec Ideal S4x2048x768 .f32 := m ((c.tc : Thread nD τ).loc main_arg0)
abbrev argWq : Vec Ideal S768x2304 .f32 := m ((c.tc : Thread nD τ).loc main_arg3)
abbrev argWp : Vec Ideal S768x768 .f32 := m ((c.tc : Thread nD τ).loc main_arg5)
abbrev argW1 : Vec Ideal S768x3072 .f32 := m ((c.tc : Thread nD τ).loc main_arg9)
abbrev argW2 : Vec Ideal S3072x768 .f32 := m ((c.tc : Thread nD τ).loc main_arg11)

/-- The flattened input. -/
theorem entry_x : W1 m ρ c (Proc.devRef .tc main_v0) = (shapeCast S8192x768 (argX m c) shapeCasts_S4x2048x768_S8192x768 : Vec Ideal S8192x768 .f32) := by
  simp only [W1, hostOps0]
  after_reads_simp
  rfl

/-- The fused projection, reshaped back to batches. -/
theorem fused : (W3 m ρ c (Proc.devRef .tc main_v2) : Vec Ideal S4x2048x2304 .bf16)
    = fun i => qkvK (fun k => argX m c (ix3 (i 0) (i 1) k)) (fun k l => argWq m c (ix2 k l)) (i 2) := by
  have h := (W2_arr m ρ c 2).trans (Arrays.arr0 (V1 m ρ) c _ (entry_x m ρ c) _ (W1_args m ρ c main_arg3 (by decide)))
  have h' : W3 m ρ c (Proc.devRef .tc main_v2)
      = (shapeCast S4x2048x2304 (W2 m ρ c (Proc.devRef .tc main_v1) : Vec Ideal S8192x2304 .bf16) shapeCasts_S8192x2304_S4x2048x2304 : Vec Ideal S4x2048x2304 .bf16) := by
    simp only [W3, hostOps1]
    after_reads_simp
    rfl
  rw [h']
  erw [h]
  funext i
  pointwise
  congr 1
  funext k
  blk_ext

/-- The attention's result, every head of every batch. -/
theorem heads : (W4 m ρ c (Proc.devRef .tc main_v3) : Vec Ideal S4x2048x768 .bf16)
    = fun i => headsK (fun s => qkvK (fun k => argX m c (ix3 (i 0) s k)) fun k l => argWq m c (ix2 k l)) (i 1) (i 2) := by
  have h := (W4_arr m ρ c 3).trans (Arrays.arr1 (V3 m ρ) c _ (fused m ρ c))
  pointwise at h
  exact h

/-- The flattened input is as it was when the third call is entered. -/
theorem entry_x' : W5 m ρ c (Proc.devRef .tc main_v0) = (shapeCast S8192x768 (argX m c) shapeCasts_S4x2048x768_S8192x768 : Vec Ideal S8192x768 .f32) :=
  (W5_of m ρ c main_v0 (by decide)).trans <| (W4_of m ρ c main_v0 (by decide)).trans <|
    (W3_of m ρ c main_v0 (by decide)).trans <| (W2_of m ρ c main_v0 (by decide)).trans (entry_x m ρ c)

/-- The flattened attention. -/
theorem entry_a : W5 m ρ c (Proc.devRef .tc main_v4)
    = (shapeCast S8192x768 (W4 m ρ c (Proc.devRef .tc main_v3) : Vec Ideal S4x2048x768 .bf16) shapeCasts_S4x2048x768_S8192x768 : Vec Ideal S8192x768 .bf16) := by
  simp only [W5, hostOps2]
  after_reads_simp
  rfl

/-- The three weights, cast. -/
theorem entry_wp : W5 m ρ c (Proc.devRef .tc main_v5) = (argWp m c : Vec Ideal S768x768 .bf16) := by
  have h := W4_args m ρ c main_arg5 (by decide)
  simp only [W5, hostOps2]
  after_reads_simp
  rw [h]
  rfl

theorem entry_w1 : W5 m ρ c (Proc.devRef .tc main_v6) = (argW1 m c : Vec Ideal S768x3072 .bf16) := by
  have h := W4_args m ρ c main_arg9 (by decide)
  simp only [W5, hostOps2]
  after_reads_simp
  rw [h]
  rfl

theorem entry_w2 : W5 m ρ c (Proc.devRef .tc main_v7) = (argW2 m c : Vec Ideal S3072x768 .bf16) := by
  have h := W4_args m ρ c main_arg11 (by decide)
  simp only [W5, hostOps2]
  after_reads_simp
  rw [h]
  rfl

/-- The result array: the kernel's formula for each batch. -/
theorem result : (W7 m ρ c (Proc.devRef .tc main_v9) : Vec Ideal S4x2048x768 .f32)
    = fun i => blockK (fun s k => argX m c (ix3 (i 0) s k)) (fun k l => argWq m c (ix2 k l)) (fun k l => argWp m c (ix2 k l))
        (fun k n => argW1 m c (ix2 k n)) (fun n l => argW2 m c (ix2 n l)) (i 1) (i 2) := by
  have h := (W6_arr m ρ c 5).trans (Arrays.arr2 (V5 m ρ) c _ (entry_a m ρ c) _ (entry_x' m ρ c) _ (entry_wp m ρ c)
    _ (entry_w1 m ρ c) _ (entry_w2 m ρ c))
  have h' : W7 m ρ c (Proc.devRef .tc main_v9)
      = (shapeCast S4x2048x768 (W6 m ρ c (Proc.devRef .tc main_v8) : Vec Ideal S8192x768 .f32) shapeCasts_S8192x768_S4x2048x768 : Vec Ideal S4x2048x768 .f32) := by
    simp only [W7, hostOps3]
    after_reads_simp
    rfl
  rw [h']
  erw [h]
  rw [heads]
  funext i
  idx_vars i
  have hs := i1.isLt
  have e0 : ((i0 : ℕ) * 2048 + i1) / 2048 = i0 := by omega
  have e1 : ((i0 : ℕ) * 2048 + i1) % 2048 = i1 := by omega
  pointwise
  simp only [e0, e1]
  rfl

end Cert.Proof.Result

end
-- ==== Proof.Maths.lean ====
/-
  The values of the two programs' literals, and the mathematics that makes the two programs' rows equal.
-/
module

public import proofs.«01_k».proof.Proof.Spec
public import Idealize.ShloMosaic.PureOps.Ideal.Laws
public import Mathlib.Analysis.Complex.Exponential

@[expose] public section

noncomputable section

namespace Cert.Proof.Maths

open Idealize.ShloMosaic Cert.Proof.Spec

/-- A row's length is 768. -/
theorem rowLen_eq : rowLen = ((768 : ℝ) : EReal) := by
  simp [rowLen, Ideal.ofBits, Ideal.ieee, -EReal.coe_mul]; norm_num
/-- The literal under the normalization's root, exactly. -/
theorem eps_eq : eps = ((10995116 / 2 ^ 40 : ℝ) : EReal) := by
  simp [eps, Ideal.ofBits, Ideal.ieee, -EReal.coe_mul]; norm_num
/-- The reference's scale of the queries is one eighth. -/
theorem eighth_eq : eighth = ((1 / 8 : ℝ) : EReal) := by
  simp [eighth, Ideal.ofBits, Ideal.ieee, -EReal.coe_mul]; norm_num
/-- The kernel's bound on a score is 112. -/
theorem bound_eq : bound = ((112 : ℝ) : EReal) := by
  simp [bound, Ideal.ofBits, Ideal.ieee, -EReal.coe_mul]; norm_num
/-- The reference's root of one half, exactly as its literal has it. -/
theorem halfRoot_eq : halfRoot = ((11863283 / 16777216 : ℝ) : EReal) := by
  simp [halfRoot, Ideal.ofBits, Ideal.ieee, -EReal.coe_mul]; norm_num
/-- The kernel's one half. -/
theorem halfK_eq : halfK = ((1 / 2 : ℝ) : EReal) := by
  simp [halfK, Ideal.ofBits, Ideal.ieee, -EReal.coe_mul]; norm_num
/-- The reference's one half. -/
theorem halfR_eq : halfR = ((1 / 2 : ℝ) : EReal) := by
  simp [halfR, Ideal.ofBits, Ideal.ieee, -EReal.coe_mul]; norm_num
/-- The precondition's greatest score, exactly. -/
theorem reach_eq : Ideal.ofBits .f32 0x429B4396#32 = ((10175382 / 131072 : ℝ) : EReal) := by
  simp [Ideal.ofBits, Ideal.ieee, -EReal.coe_mul]; norm_num
/-- The literal a running maximum starts from is minus infinity. -/
theorem negInf_eq : Ideal.ofBits .f32 0xFF800000#32 = ⊥ := by
  simp [Ideal.ofBits, Ideal.ieee]
/-- The kernel's named scale of the query columns: one over eight times the logarithm of two. -/
theorem qscale_eq : qscale = (((8 * Real.log 2)⁻¹ : ℝ) : EReal) :=
  IdealRules.named_const.ideal_named_scalar _ _ _ _ rfl
/-- The kernel's named root of one half: the same number as the reference's literal. -/
theorem halfRootK_eq : halfRootK = ((11863283 / 16777216 : ℝ) : EReal) :=
  IdealRules.named_const.ideal_named_scalar _ _ _ _ rfl

/-- A positive real factor comes out of a finite sum of extended reals. -/
theorem sum_mul {ι : Type} (s : Finset ι) (f : ι → EReal) {c : ℝ} (hc : 0 ≤ c) : (∑ i ∈ s, f i) * (c : EReal) = ∑ i ∈ s, f i * c := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A finite sum of reals is the same among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A square is not negative. -/
theorem sq_nonneg (y : EReal) : 0 ≤ y * y := by
  induction y using EReal.rec with
  | bot => simp
  | top => simp
  | coe r => exact_mod_cast mul_self_nonneg r

/-- What stands under the normalization's root is positive. -/
theorem var_pos (x : Fin 768 → EReal) : 0 < var x + eps := by
  have h : 0 ≤ var x := by
    unfold var
    rw [rowLen_eq, Ideal.div_coe (by norm_num)]
    exact mul_nonneg (Finset.sum_nonneg fun k _ => sq_nonneg _) (by exact_mod_cast (by norm_num : (0 : ℝ) ≤ 1 / 768))
  have he : (0 : EReal) < eps := by rw [eps_eq]; exact_mod_cast (by norm_num : (0 : ℝ) < 10995116 / 2 ^ 40)
  exact lt_of_lt_of_le he (le_add_of_nonneg_left h)

/-- Times the inverse root of a positive number is over its root. -/
theorem mul_rsqrt (y v : EReal) (h : 0 < v) : y * Ideal.rsqrt v = Ideal.div y (Ideal.sqrt v) := by
  induction v using EReal.rec with
  | bot => simp at h
  | top => simp [Ideal.div]
  | coe r =>
    have hr : 0 < r := by exact_mod_cast h
    have hs : √r ≠ 0 := (Real.sqrt_pos.2 hr).ne'
    rw [Ideal.rsqrt_coe, Ideal.sqrt_coe, if_neg hr.not_gt, if_neg hr.ne', if_neg hr.not_gt, Ideal.div_coe hs, one_div]

/-- With gain one and offset zero the two normalizations agree. -/
theorem norm_eq (g b x : Fin 768 → EReal) (hg : ∀ k, g k = 1) (hb : ∀ k, b k = 0) (k : Fin 768) : normK x k = normR g b x k := by
  unfold normK normR
  rw [hg, hb, mul_one, add_zero, mul_rsqrt _ _ (var_pos x)]

/-- The logarithm of two is positive. -/
theorem log2_pos : 0 < Real.log 2 := Real.log_pos (by norm_num)

/-- The logarithm of two from below, by the exponential's series. -/
theorem log2_gt : (693143 / 1000000 : ℝ) ≤ Real.log 2 := by
  rw [Real.le_log_iff_exp_le (by norm_num)]
  refine (Real.exp_bound' (n := 9) (by norm_num) (by norm_num) (by norm_num)).trans ?_
  norm_num [Finset.sum_range_succ, Nat.factorial]

/-- The kernel's fused projection is the reference's, its query columns scaled. -/
theorem qkv_eq (g b x : Fin 768 → EReal) (w : Fin 768 → Fin 2304 → EReal) (bw : Fin 2304 → EReal) (hg : ∀ k, g k = 1)
    (hb : ∀ k, b k = 0) (hw : ∀ l, bw l = 0) (l : Fin 2304) :
    qkvK x w l = qkvR g b x w bw l * if (l : ℕ) < 768 then qscale else 1 := by
  unfold qkvK qkvR
  rw [hw, add_zero]
  simp only [norm_eq g b x hg hb]
  split
  · rw [qscale_eq, sum_mul _ _ (inv_nonneg.2 (by have := log2_pos; positivity))]
    exact Finset.sum_congr rfl fun k _ => (mul_assoc _ _ _).symm
  · simp only [mul_one]

/-- The kernel's score, before its bound: the reference's over the logarithm of two. -/
theorem score_eq (q k : Fin 64 → EReal) :
    ∑ e, q e * qscale * k e = scoreR q k * ((1 / Real.log 2 : ℝ) : EReal) := by
  have h := log2_pos
  unfold scoreR
  rw [sum_mul _ _ (by positivity), qscale_eq, eighth_eq]
  refine Finset.sum_congr rfl fun e _ => ?_
  have hc : ((1 / 8 : ℝ) : EReal) * ((1 / Real.log 2 : ℝ) : EReal) = (((8 * Real.log 2)⁻¹ : ℝ) : EReal) := by
    rw [← EReal.coe_mul]; congr 1; field_simp
  rw [← hc]
  ac_rfl

/-- The kernel's weight of a key whose score is the real `s`, within the precondition's reach. -/
theorem wgtK_eq (q k : Fin 64 → EReal) (s : ℝ) (hs : scoreR q k = (s : EReal)) (hle : s ≤ 10175382 / 131072) :
    wgtK (fun e => q e * qscale) k = ((Real.exp s : ℝ) : EReal) := by
  have h := log2_pos
  have hb : s * (1 / Real.log 2) ≤ 112 := by
    rw [mul_one_div, div_le_iff₀ h]
    have := log2_gt
    linarith
  unfold wgtK
  rw [score_eq, hs, bound_eq, ← EReal.coe_mul, min_eq_left (by exact_mod_cast hb), Ideal.exp2_coe]
  congr 1
  change (2 : ℝ) ^ (s * (1 / Real.log 2)) = _
  rw [Real.rpow_def_of_pos (by norm_num)]
  congr 1
  field_simp

/-- The greatest of the reals' scores is a real. -/
theorem topR_real (q : Fin 64 → EReal) (k : Fin 2048 → Fin 64 → EReal) (s : Fin 2048 → ℝ)
    (hs : ∀ u, scoreR q (k u) = (s u : EReal)) : ∃ M : ℝ, topR q k = (M : EReal) := by
  have h1 : topR q k < ⊤ := by
    unfold topR
    rw [max_eq_right bot_le, Finset.fold_max_lt]
    exact ⟨bot_lt_top, fun u _ => by rw [hs]; exact EReal.coe_lt_top _⟩
  have h2 : ⊥ < topR q k := by
    unfold topR
    rw [max_eq_right bot_le, Finset.lt_fold_max]
    exact Or.inr ⟨0, Finset.mem_univ _, by rw [hs]; exact EReal.bot_lt_coe _⟩
  exact ⟨(topR q k).toReal, (EReal.coe_toReal h1.ne h2.ne').symm⟩

/-- One head's result: the two programs agree where every score is a real within reach. -/
theorem attn_eq (q : Fin 64 → EReal) (k : Fin 2048 → Fin 64 → EReal) (v : Fin 2048 → EReal)
    (hgt : ∀ u, ⊥ < scoreR q (k u)) (hle : ∀ u, scoreR q (k u) ≤ ((10175382 / 131072 : ℝ) : EReal)) :
    attnK (fun e => q e * qscale) k v = attnR q k v := by
  obtain ⟨s, hs⟩ : ∃ s : Fin 2048 → ℝ, ∀ u, scoreR q (k u) = (s u : EReal) :=
    ⟨fun u => (scoreR q (k u)).toReal, fun u => (EReal.coe_toReal ((hle u).trans_lt (EReal.coe_lt_top _)).ne (hgt u).ne').symm⟩
  have hsle : ∀ u, s u ≤ 10175382 / 131072 := fun u => by have := hle u; rw [hs] at this; exact_mod_cast this
  obtain ⟨M, hM⟩ := topR_real q k s hs
  have hK : ∀ u, wgtK (fun e => q e * qscale) (k u) = ((Real.exp (s u) : ℝ) : EReal) := fun u => wgtK_eq _ _ _ (hs u) (hsle u)
  have hR : ∀ u, wgtR q k u = ((Real.exp (s u - M) : ℝ) : EReal) := fun u => by
    unfold wgtR; rw [hs, hM, ← EReal.coe_sub, Ideal.exp_coe]
  have hL : 0 < ∑ u, Real.exp (s u) := Finset.sum_pos (fun u _ => Real.exp_pos _) ⟨0, Finset.mem_univ _⟩
  have hL' : ∑ u, Real.exp (s u - M) = (∑ u, Real.exp (s u)) * Real.exp (-M) := by
    rw [Finset.sum_mul]; exact Finset.sum_congr rfl fun u _ => by rw [← Real.exp_add, sub_eq_add_neg]
  unfold attnK attnR
  simp only [hK, hR, coe_sum]
  rw [hL', Ideal.div_coe hL.ne', one_mul, sum_mul _ _ (by positivity)]
  refine Finset.sum_congr rfl fun u _ => ?_
  rw [Ideal.div_coe (mul_pos hL (Real.exp_pos _)).ne', mul_right_comm, ← EReal.coe_mul, ← EReal.coe_mul]
  congr 2
  rw [sub_eq_add_neg, Real.exp_add]
  have := Real.exp_pos (-M)
  field_simp

/-- The two activations agree. -/
theorem gelu_eq (u : EReal) : geluK u = geluR u := by
  unfold geluK geluR
  rw [halfK_eq, halfR_eq, halfRootK_eq, halfRoot_eq, EReal.neg_mul, Ideal.erfc_neg]

end Cert.Proof.Maths

end
-- ==== Proof.RefStages.lean ====
/-
  The reference's attention read at an index, stage by stage, each of any arrays it is given.
-/
module

public import proofs.«01_k».proof.Proof.Spec
public import proofs.«01_k».proof.Proof.Gen.ReferenceIdeal
public import Idealize.ShloMosaic.Lib.Pointwise

@[expose] public section

set_option maxRecDepth 16384

noncomputable section

namespace Cert.Proof.RefStages

open Idealize.ShloMosaic Idealize.ShloMosaic.TcCoe Cert.ReferenceIdeal Cert.ReferenceIdeal.Gen Cert.Proof.Spec

/-- The greatest score of a query, of any scores `v`. -/
theorem top (v : FVec Ideal S4x12x2048x2048 .f32) (b : Fin 4) (h : Fin 12) (s : Fin 2048) :
    Host.reduce FloatOps.maximumf v (constant (F := Ideal) S_ .f32 0xFF800000#32) reducesTo_S4x12x2048x2048_S4x12x2048_d3 h_S_ (ix3 b h s)
      = Finset.univ.fold max (Ideal.ofBits .f32 0xFF800000#32) fun u : Fin 2048 => v (ix4 b h s u) := by
  pointwise

/-- The sum of a query's weights, of any weights `p`. -/
theorem total (p : FVec Ideal S4x12x2048x2048 .f32) (b : Fin 4) (h : Fin 12) (s : Fin 2048) :
    Host.reduceAdd p (constant (F := Ideal) S_ .f32 0x00000000#32) reducesTo_S4x12x2048x2048_S4x12x2048_d3 h_S_ (ix3 b h s)
      = ∑ u : Fin 2048, p (ix4 b h s u) := by
  pointwise

/-- The weights, of any scores `v` and any shift `t` of each query. -/
theorem shifted (v : FVec Ideal S4x12x2048x2048 .f32) (t : FVec Ideal S4x12x2048 .f32) (b : Fin 4) (h : Fin 12) (s u : Fin 2048) :
    Host.exp (subf v (broadcastInDim S4x12x2048x2048 ![0, 1, 2, 3] bcast_S4x12x2048x1_S4x12x2048x2048_0_1_2_3 (broadcastInDim S4x12x2048x1 ![0, 1, 2] bcast_S4x12x2048_S4x12x2048x1_0_1_2 (maximumf (broadcastInDim S4x12x2048 ![] bcast_S_S4x12x2048 (constant (F := Ideal) S_ .f32 0xFF800000#32)) t)))) (ix4 b h s u)
      = Ideal.exp (v (ix4 b h s u) - max (Ideal.ofBits .f32 0xFF800000#32) (t (ix3 b h s))) := by
  pointwise

/-- The values weighed, of any weights `p`, totals `l` and projection `q`. -/
theorem weighed (p : FVec Ideal S4x12x2048x2048 .f32) (l : FVec Ideal S4x12x2048 .f32) (q : FVec Ideal S3x4x12x2048x64 .f32) (b : Fin 4) (h : Fin 12) (s : Fin 2048) (e : Fin 64) :
    Host.dotGeneral (F := Ideal) (φ₁ := .f32) (φ₂ := .f32) dot_S4x12x2048x2048_S4x12x2048x64_S4x12x2048x64_3_2_2_3_01_01 none (Host.divf p (broadcastInDim S4x12x2048x2048 ![0, 1, 2, 3] bcast_S4x12x2048x1_S4x12x2048x2048_0_1_2_3 (broadcastInDim S4x12x2048x1 ![0, 1, 2] bcast_S4x12x2048_S4x12x2048x1_0_1_2 l))) (shapeCast S4x12x2048x64 (extractStridedSlice S1x4x12x2048x64 ![2, 0, 0, 0, 0] q slices_S3x4x12x2048x64_S1x4x12x2048x64_2_0_0_0_0) shapeCasts_S1x4x12x2048x64_S4x12x2048x64) (ix4 b h s e)
      = ∑ u : Fin 2048, Ideal.div (p (ix4 b h s u)) (l (ix3 b h s)) * q (ix5 2 b h u e) := by
  pointwise

/-- The projection and the residual, of any heads' results `a`. -/
theorem projected (x : FVec Ideal S4x2048x768 .f32) (a : FVec Ideal S4x12x2048x64 .f32) (w : FVec Ideal S768x768 .f32) (c : FVec Ideal S768 .f32) (b : Fin 4) (s : Fin 2048) (j : Fin 768) :
    addf x (addf (Host.dotGeneral dot_S4x2048x768_S768x768_S4x2048x768_2_0_01_1_n_n none (shapeCast S4x2048x768 (transpose S4x2048x12x64 [0, 2, 1, 3] a transposes_S4x12x2048x64_S4x2048x12x64_0_2_1_3) shapeCasts_S4x2048x12x64_S4x2048x768) w) (broadcastInDim S4x2048x768 ![0, 1, 2] bcast_S1x1x768_S4x2048x768_0_1_2 (broadcastInDim S1x1x768 ![2] bcast_S768_S1x1x768_2 c))) (ix3 b s j)
      = x (ix3 b s j) + ((∑ k : Fin 768, a (ix4 b ⟨k / 64, by have := k.isLt; omega⟩ s ⟨k % 64, by omega⟩) * w (ix2 k j)) + c (ix1 j)) := by
  pointwise

end Cert.Proof.RefStages

end
-- ==== Proof.RefValue.lean ====
/-
  The reference's result array after its run, at an index, of the argument arrays.
-/
module

public import proofs.«01_k».proof.Proof.Maths
public import proofs.«01_k».proof.Proof.RefStages
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Proof.RefValue

open Idealize.ShloMosaic Idealize.ShloMosaic.TcCoe Cert.ReferenceIdeal Cert.ReferenceIdeal.Gen Cert.ReferenceIdeal.Value Cert.Proof.Spec Cert.Proof.RefStages

variable (V : Valuation τ sig (Elt Ideal))

/-- The argument arrays, each by its place (`a0` to `a12`). -/
abbrev a0 : Vec Ideal S4x2048x768 .f32 := V (Proc.devRef .tc main_arg0)
abbrev a1 : Vec Ideal S768 .f32 := V (Proc.devRef .tc main_arg1)
abbrev a2 : Vec Ideal S768 .f32 := V (Proc.devRef .tc main_arg2)
abbrev a3 : Vec Ideal S768x2304 .f32 := V (Proc.devRef .tc main_arg3)
abbrev a4 : Vec Ideal S2304 .f32 := V (Proc.devRef .tc main_arg4)
abbrev a5 : Vec Ideal S768x768 .f32 := V (Proc.devRef .tc main_arg5)
abbrev a6 : Vec Ideal S768 .f32 := V (Proc.devRef .tc main_arg6)
abbrev a7 : Vec Ideal S768 .f32 := V (Proc.devRef .tc main_arg7)
abbrev a8 : Vec Ideal S768 .f32 := V (Proc.devRef .tc main_arg8)
abbrev a9 : Vec Ideal S768x3072 .f32 := V (Proc.devRef .tc main_arg9)
abbrev a10 : Vec Ideal S3072 .f32 := V (Proc.devRef .tc main_arg10)
abbrev a11 : Vec Ideal S3072x768 .f32 := V (Proc.devRef .tc main_arg11)
abbrev a12 : Vec Ideal S768 .f32 := V (Proc.devRef .tc main_arg12)

/-- One column of the fused projection at one row of one batch, of the argument arrays. -/
abbrev proj (b : Fin 4) (s : Fin 2048) (l : Fin 2304) : EReal :=
  qkvR (fun k => a1 V (ix1 k)) (fun k => a2 V (ix1 k)) (fun k => a0 V (ix3 b s k)) (fun k l => a3 V (ix2 k l))
    (fun l => a4 V (ix1 l)) l

/-- The column of the fused projection that holds coordinate `e` of head `h` of part `w` (queries, keys, values). -/
abbrev col (w : Fin 3) (h : Fin 12) (e : Fin 64) : Fin 2304 :=
  ⟨w * 768 + h * 64 + e, by have := w.isLt; have := h.isLt; have := e.isLt; omega⟩

/-- The mean of a row of the input. -/
theorem v3 (b : Fin 4) (s : Fin 2048) (o : Fin 1) :
    (res_main_v3 V : Vec Ideal S4x2048x1 .f32) (ix3 b s o) = mean fun k => a0 V (ix3 b s k) := by
  unfold res_main_v3
  clean_types
  pointwise
  rfl

/-- A row of the input less its mean. -/
theorem v5 (b : Fin 4) (s : Fin 2048) (k : Fin 768) :
    (res_main_v5 V : Vec Ideal S4x2048x768 .f32) (ix3 b s k) = a0 V (ix3 b s k) - mean fun k => a0 V (ix3 b s k) := by
  unfold res_main_v5
  clean_types
  pointwise
  rw [v3]

/-- The fused projection, split into heads. -/
theorem v29 (w : Fin 3) (b : Fin 4) (h : Fin 12) (s : Fin 2048) (e : Fin 64) :
    (res_main_v29 V : Vec Ideal S3x4x12x2048x64 .f32) (ix5 w b h s e) = proj V b s (col w h e) := by
  unfold res_main_v29
  clean_types
  pointwise
  simp only [v3, v5]
  rfl

/-- The scores of one head. -/
theorem v39 (b : Fin 4) (h : Fin 12) (s u : Fin 2048) :
    (res_main_v39 V : Vec Ideal S4x12x2048x2048 .f32) (ix4 b h s u)
      = scoreR (fun e => proj V b s (col 0 h e)) (fun e => proj V b u (col 1 h e)) := by
  unfold res_main_v39
  clean_types
  pointwise
  simp only [v29]
  rfl

/-- The unnormalized weights of one head. -/
theorem v46 (b : Fin 4) (h : Fin 12) (s u : Fin 2048) :
    (res_main_v46 V : Vec Ideal S4x12x2048x2048 .f32) (ix4 b h s u)
      = wgtR (fun e => proj V b s (col 0 h e)) (fun u e => proj V b u (col 1 h e)) u := by
  unfold res_main_v46
  refine (shifted _ _ b h s u).trans ?_
  rw [top, Maths.negInf_eq]
  simp only [v39]
  unfold wgtR topR
  rfl

/-- One row after the attention's projection and the first residual. -/
abbrev row (b : Fin 4) (s : Fin 2048) (j : Fin 768) : EReal :=
  resR (headsR (proj V b) s) (fun k => a0 V (ix3 b s k)) (fun k l => a5 V (ix2 k l)) (fun k => a6 V (ix1 k)) j

/-- The attention at a column, by its head and its coordinate in it. -/
theorem heads (b : Fin 4) (s : Fin 2048) (k : Fin 768) :
    headsR (proj V b) s k
      = attnR (fun e => proj V b s (col 0 ⟨k / 64, by have := k.isLt; omega⟩ e))
          (fun u e => proj V b u (col 1 ⟨k / 64, by have := k.isLt; omega⟩ e))
          fun u => proj V b u (col 2 ⟨k / 64, by have := k.isLt; omega⟩ ⟨k % 64, by omega⟩) := by
  have e0 : ∀ e, col 0 ⟨k / 64, by have := k.isLt; omega⟩ e = headCol 0 (by decide) k e := fun e =>
    Fin.ext (by simp [col, headCol]; omega)
  have e1 : ∀ e, col 1 ⟨k / 64, by have := k.isLt; omega⟩ e = headCol 768 (by decide) k e := fun e =>
    Fin.ext (by simp [col, headCol]; omega)
  have e2 : col 2 ⟨k / 64, by have := k.isLt; omega⟩ ⟨k % 64, by omega⟩ = valCol k :=
    Fin.ext (by simp [col, valCol]; omega)
  unfold headsR
  simp only [e0, e1, e2]

/-- The attention's projection and the first residual. -/
theorem v58 (b : Fin 4) (s : Fin 2048) (j : Fin 768) :
    (res_main_v58 V : Vec Ideal S4x2048x768 .f32) (ix3 b s j) = row V b s j := by
  unfold res_main_v58
  refine (projected _ _ _ _ b s j).trans ?_
  refine congrArg (a0 V (ix3 b s j) + ·) (congrArg (· + a6 V (ix1 j)) (Finset.sum_congr rfl fun k _ =>
    congrArg (· * a5 V (ix2 k j)) ?_))
  rw [heads]
  refine (weighed _ _ _ b _ s _).trans ?_
  unfold attnR
  refine Finset.sum_congr rfl fun u _ => ?_
  rw [total, v29]
  simp only [v46]

/-- The mean of a row after the first residual. -/
theorem v62 (b : Fin 4) (s : Fin 2048) (o : Fin 1) :
    (res_main_v62 V : Vec Ideal S4x2048x1 .f32) (ix3 b s o) = mean (row V b s) := by
  unfold res_main_v62
  clean_types
  pointwise
  simp only [v58]
  rfl

/-- A row after the first residual, less its mean. -/
theorem v64 (b : Fin 4) (s : Fin 2048) (k : Fin 768) :
    (res_main_v64 V : Vec Ideal S4x2048x768 .f32) (ix3 b s k) = row V b s k - mean (row V b s) := by
  unfold res_main_v64
  clean_types
  pointwise
  rw [v62, v58]

/-- The hidden layer before its activation. -/
theorem v86 (b : Fin 4) (s : Fin 2048) (n : Fin 3072) :
    (res_main_v86 V : Vec Ideal S4x2048x3072 .f32) (ix3 b s n)
      = (∑ k, normR (fun k => a7 V (ix1 k)) (fun k => a8 V (ix1 k)) (row V b s) k * a9 V (ix2 k n)) + a10 V (ix1 n) := by
  unfold res_main_v86
  clean_types
  pointwise
  simp only [v58, v62, v64]
  rfl

/-- The reference's result, read from memory `V` before its run. -/
abbrev out : Vec Ideal S4x2048x768 .f32 :=
  addf (res_main_v58 V) (addf (Host.dotGeneral (φ₁ := .f32) (φ₂ := .f32) dot_S4x2048x3072_S3072x768_S4x2048x768_2_0_01_1_n_n none (mulf (mulf (broadcastInDim S4x2048x3072 ![] bcast_S_S4x2048x3072 (constant S_ .f32 0x3F000000#32)) (res_main_v86 V)) (Host.erfc (mulf (Host.negf (res_main_v86 V)) (broadcastInDim S4x2048x3072 ![] bcast_S_S4x2048x3072 (constant S_ .f32 0x3F3504F3#32))))) (V (Proc.devRef .tc main_arg11))) (broadcastInDim S4x2048x768 ![0, 1, 2] bcast_S1x1x768_S4x2048x768_0_1_2 (broadcastInDim S1x1x768 ![2] bcast_S768_S1x1x768_2 (V (Proc.devRef .tc main_arg12)))))

/-- The reference's result at an index, of the argument arrays. -/
theorem out_apply (b : Fin 4) (t : Fin 2048) (j : Fin 768) :
    out V (ix3 b t j)
      = blockR (fun s k => a0 V (ix3 b s k)) (fun k => a1 V (ix1 k)) (fun k => a2 V (ix1 k)) (fun k l => a3 V (ix2 k l))
          (fun l => a4 V (ix1 l)) (fun k l => a5 V (ix2 k l)) (fun k => a6 V (ix1 k)) (fun k => a7 V (ix1 k))
          (fun k => a8 V (ix1 k)) (fun k n => a9 V (ix2 k n)) (fun n => a10 V (ix1 n)) (fun n l => a11 V (ix2 n l))
          (fun k => a12 V (ix1 k)) t j := by
  unfold out
  clean_types
  pointwise
  simp only [v58, v86]
  rfl

end Cert.Proof.RefValue

end
-- ==== Proof.Pre.lean ====
/-
  What the precondition says of the argument arrays, index by index.
-/
module

public import proofs.«01_k».proof.Proof.Spec
public import proofs.«01_k».proof.Proof.Gen.Pre_plain_affine_and_scores_in_reach
public import Idealize.ShloMosaic.Lib.Pointwise
public import Idealize.ShloMosaic.Lib.Tactic.CleanTypes

@[expose] public section

set_option maxRecDepth 16384

noncomputable section

namespace Cert.Proof.Pre

open Idealize.ShloMosaic Idealize.ShloMosaic.TcCoe Cert.Pre_plain_affine_and_scores_in_reach Cert.Proof.Spec

/-- A comparison that came out true holds. -/
theorem of_bit {P : Prop} [Decidable P] (h : BitVec.ofBool (decide P) = 1#1) : P := by
  by_cases hp : P
  · exact hp
  · simp [hp] at h

/-- A vector that equals the literal one everywhere. -/
theorem ones {n : ℕ} {v : FVec Ideal ⟨1, ![n]⟩ .f32} {hb : S_.BroadcastsInDim ⟨1, ![n]⟩ ![]}
    (h : cmpf .oeq v (broadcastInDim ⟨1, ![n]⟩ ![] hb (constant (F := Ideal) S_ .f32 0x3F800000#32)) = fun _ => 1#1) (k : Fin n) :
    v (ix1 k) = 1 := by
  have h' := congrFun h (ix1 k)
  pointwise at h'
  exact of_bit h'

/-- A vector that equals the literal zero everywhere. -/
theorem zeros {n : ℕ} {v : FVec Ideal ⟨1, ![n]⟩ .f32} {hb : S_.BroadcastsInDim ⟨1, ![n]⟩ ![]}
    (h : cmpf .oeq v (broadcastInDim ⟨1, ![n]⟩ ![] hb (constant (F := Ideal) S_ .f32 0x00000000#32)) = fun _ => 1#1) (k : Fin n) :
    v (ix1 k) = 0 := by
  have h' := congrFun h (ix1 k)
  pointwise at h'
  exact of_bit h'

variable (x : FVec Ideal S4x2048x768 .f32) (g1 b1 : FVec Ideal S768 .f32) (wq : FVec Ideal S768x2304 .f32)
  (bq : FVec Ideal S2304 .f32) (wp : FVec Ideal S768x768 .f32) (bp g2 b2 : FVec Ideal S768 .f32)
  (w1 : FVec Ideal S768x3072 .f32) (c1 : FVec Ideal S3072 .f32) (w2 : FVec Ideal S3072x768 .f32) (c2 : FVec Ideal S768 .f32)

/-- The column of coordinate `e` of head `h`'s query, as the precondition counts it. -/
abbrev qCol (h : Fin 12) (e : Fin 64) : Fin 2304 := ⟨h * 64 + e, by have := h.isLt; have := e.isLt; omega⟩
/-- The column of coordinate `e` of head `h`'s key, likewise. -/
abbrev kCol (h : Fin 12) (e : Fin 64) : Fin 2304 := ⟨768 + h * 64 + e, by have := h.isLt; have := e.isLt; omega⟩

/-- One column of the fused projection at one row of one batch. -/
abbrev proj (b : Fin 4) (s : Fin 2048) (l : Fin 2304) : EReal :=
  qkvR (fun k => g1 (ix1 k)) (fun k => b1 (ix1 k)) (fun k => x (ix3 b s k)) (fun k l => wq (ix2 k l)) (fun l => bq (ix1 l)) l

/-- Every score is above minus infinity. -/
theorem score_gt (h : (fn (F := Ideal) x g1 b1 wq bq wp bp g2 b2 w1 c1 w2 c2).2.2.2.2.2.2.2.2.1 = fun _ => 1#1)
    (b : Fin 4) (n : Fin 12) (t u : Fin 2048) :
    Ideal.ofBits .f32 0xFF800000#32
      < scoreR (fun e => proj x g1 b1 wq bq b t (qCol n e)) (fun e => proj x g1 b1 wq bq b u (kCol n e)) := by
  have h' := congrFun h (ix4 b n t u)
  unfold fn fn_part1 fn_part2 fn_part3 at h'
  pointwise at h'
  exact of_bit h'

/-- Every score is at most the precondition's literal. -/
theorem score_le (h : (fn (F := Ideal) x g1 b1 wq bq wp bp g2 b2 w1 c1 w2 c2).2.2.2.2.2.2.2.2.2 = fun _ => 1#1)
    (b : Fin 4) (n : Fin 12) (t u : Fin 2048) :
    scoreR (fun e => proj x g1 b1 wq bq b t (qCol n e)) (fun e => proj x g1 b1 wq bq b u (kCol n e))
      ≤ Ideal.ofBits .f32 0x429B4396#32 := by
  have h' := congrFun h (ix4 b n t u)
  unfold fn fn_part1 fn_part2 fn_part3 at h'
  pointwise at h'
  exact of_bit h'

end Cert.Proof.Pre

end
-- ==== Proof.Equation.lean ====
/-
  The equation: the kernel's result for one batch is the reference's, under what the precondition says.
-/
module

public import proofs.«01_k».proof.Proof.Maths

@[expose] public section

noncomputable section

namespace Cert.Proof.Equation

open Idealize.ShloMosaic Cert.Proof.Spec Cert.Proof.Maths

/-- The attention over one batch: the kernel's, over its scaled projection, is the reference's. -/
theorem heads_eq (pK pR : Fin 2048 → Fin 2304 → EReal)
    (hp : ∀ s l, pK s l = pR s l * if (l : ℕ) < 768 then qscale else 1)
    (hgt : ∀ t u j, ⊥ < scoreR (fun e => pR t (headCol 0 (by decide) j e)) fun e => pR u (headCol 768 (by decide) j e))
    (hle : ∀ t u j, scoreR (fun e => pR t (headCol 0 (by decide) j e)) (fun e => pR u (headCol 768 (by decide) j e))
      ≤ ((10175382 / 131072 : ℝ) : EReal)) (t : Fin 2048) (j : Fin 768) : headsK pK t j = headsR pR t j := by
  have hq : ∀ e, pK t (headCol 0 (by decide) j e) = pR t (headCol 0 (by decide) j e) * qscale := fun e => by
    rw [hp, if_pos (by have := j.isLt; have := e.isLt; simp only [headCol]; omega)]
  have hk : ∀ u e, pK u (headCol 768 (by decide) j e) = pR u (headCol 768 (by decide) j e) := fun u e => by
    rw [hp, if_neg (by simp only [headCol]; omega), mul_one]
  have hv : ∀ u, pK u (valCol j) = pR u (valCol j) := fun u => by
    rw [hp, if_neg (by simp only [valCol]; omega), mul_one]
  unfold headsK headsR
  simp only [hq, hk, hv]
  exact attn_eq _ _ _ (fun u => hgt t u j) fun u => hle t u j

/-- The second half of the block: the two programs agree on equal rows of the attention's result. -/
theorem mlp_eq (a x : Fin 768 → EReal) (wp : Fin 768 → Fin 768 → EReal) (bp g b : Fin 768 → EReal)
    (w1 : Fin 768 → Fin 3072 → EReal) (c1 : Fin 3072 → EReal) (w2 : Fin 3072 → Fin 768 → EReal) (c2 : Fin 768 → EReal)
    (hbp : ∀ k, bp k = 0) (hg : ∀ k, g k = 1) (hb : ∀ k, b k = 0) (hc1 : ∀ n, c1 n = 0) (hc2 : ∀ k, c2 k = 0) (j : Fin 768) :
    mlpK a x wp w1 w2 j = mlpR g b (resR a x wp bp) w1 c1 w2 c2 j := by
  have hr : resK a x wp = resR a x wp bp := funext fun j => by
    unfold resK resR
    rw [hbp, add_zero, add_comm]
  unfold mlpK mlpR
  simp only [hr, hc1, hc2, add_zero, norm_eq g b _ hg hb, gelu_eq]

/-- The kernel's result for one batch is the reference's. -/
theorem block_eq (x : Fin 2048 → Fin 768 → EReal) (g1 b1 : Fin 768 → EReal) (wq : Fin 768 → Fin 2304 → EReal)
    (bq : Fin 2304 → EReal) (wp : Fin 768 → Fin 768 → EReal) (bp g2 b2 : Fin 768 → EReal)
    (w1 : Fin 768 → Fin 3072 → EReal) (c1 : Fin 3072 → EReal) (w2 : Fin 3072 → Fin 768 → EReal) (c2 : Fin 768 → EReal)
    (hg1 : ∀ k, g1 k = 1) (hb1 : ∀ k, b1 k = 0) (hbq : ∀ l, bq l = 0) (hbp : ∀ k, bp k = 0) (hg2 : ∀ k, g2 k = 1)
    (hb2 : ∀ k, b2 k = 0) (hc1 : ∀ n, c1 n = 0) (hc2 : ∀ k, c2 k = 0)
    (hgt : ∀ t u j, ⊥ < scoreR (fun e => qkvR g1 b1 (x t) wq bq (headCol 0 (by decide) j e))
      fun e => qkvR g1 b1 (x u) wq bq (headCol 768 (by decide) j e))
    (hle : ∀ t u j, scoreR (fun e => qkvR g1 b1 (x t) wq bq (headCol 0 (by decide) j e))
      (fun e => qkvR g1 b1 (x u) wq bq (headCol 768 (by decide) j e)) ≤ ((10175382 / 131072 : ℝ) : EReal))
    (t : Fin 2048) (j : Fin 768) : blockK x wq wp w1 w2 t j = blockR x g1 b1 wq bq wp bp g2 b2 w1 c1 w2 c2 t j := by
  have hh : headsK (fun s => qkvK (x s) wq) t = headsR (fun s => qkvR g1 b1 (x s) wq bq) t := funext fun j =>
    heads_eq _ _ (fun s l => qkv_eq g1 b1 (x s) wq bq hg1 hb1 hbq l) hgt hle t j
  unfold blockK blockR
  rw [hh]
  exact mlp_eq _ _ _ _ _ _ _ _ _ _ hbp hg2 hb2 hc1 hc2 j

end Cert.Proof.Equation

end
-- ==== Proof.Algebraic.lean ====
/-
  The value claim: from memories that agree on the arguments and of which the precondition holds, the kernel and the
  reference end with the same result.
-/
module

public import proofs.«01_k».proof.Defs
public import proofs.«01_k».proof.Proof.Run
public import proofs.«01_k».proof.Proof.Result
public import proofs.«01_k».proof.Proof.RefValue
public import proofs.«01_k».proof.Proof.Pre
public import proofs.«01_k».proof.Proof.Equation

@[expose] public section

set_option maxRecDepth 16384

noncomputable section

namespace Cert.Proof.Algebraic

open Idealize.ShloMosaic Idealize.ShloMosaic.TcCoe Idealize.SL.Sem Cert.Proof.Spec Cert.Pre_plain_affine_and_scores_in_reach

/-- The query's column, as the precondition and as the specification count it. -/
theorem qCol_eq (j : Fin 768) (e : Fin 64) :
    Pre.qCol ⟨j / 64, by have := j.isLt; omega⟩ e = headCol 0 (by decide) j e :=
  Fin.ext (by simp only [Pre.qCol, headCol]; omega)
/-- The key's column, likewise. -/
theorem kCol_eq (j : Fin 768) (e : Fin 64) :
    Pre.kCol ⟨j / 64, by have := j.isLt; omega⟩ e = headCol 768 (by decide) j e :=
  Fin.ext (by simp only [Pre.kCol, headCol]; omega)

/-- The kernel's and the reference's results at an index are equal, of any arrays of which the precondition holds. -/
theorem agree (x : Vec Ideal S4x2048x768 .f32) (g1 b1 : Vec Ideal S768 .f32) (wq : Vec Ideal S768x2304 .f32)
    (bq : Vec Ideal S2304 .f32) (wp : Vec Ideal S768x768 .f32) (bp g2 b2 : Vec Ideal S768 .f32)
    (w1 : Vec Ideal S768x3072 .f32) (c1 : Vec Ideal S3072 .f32) (w2 : Vec Ideal S3072x768 .f32) (c2 : Vec Ideal S768 .f32)
    (h : (fn (F := Ideal) x g1 b1 wq bq wp bp g2 b2 w1 c1 w2 c2).1 = (fun _ => 1#1)
      ∧ (fn (F := Ideal) x g1 b1 wq bq wp bp g2 b2 w1 c1 w2 c2).2.1 = (fun _ => 1#1)
      ∧ (fn (F := Ideal) x g1 b1 wq bq wp bp g2 b2 w1 c1 w2 c2).2.2.1 = (fun _ => 1#1)
      ∧ (fn (F := Ideal) x g1 b1 wq bq wp bp g2 b2 w1 c1 w2 c2).2.2.2.1 = (fun _ => 1#1)
      ∧ (fn (F := Ideal) x g1 b1 wq bq wp bp g2 b2 w1 c1 w2 c2).2.2.2.2.1 = (fun _ => 1#1)
      ∧ (fn (F := Ideal) x g1 b1 wq bq wp bp g2 b2 w1 c1 w2 c2).2.2.2.2.2.1 = (fun _ => 1#1)
      ∧ (fn (F := Ideal) x g1 b1 wq bq wp bp g2 b2 w1 c1 w2 c2).2.2.2.2.2.2.1 = (fun _ => 1#1)
      ∧ (fn (F := Ideal) x g1 b1 wq bq wp bp g2 b2 w1 c1 w2 c2).2.2.2.2.2.2.2.1 = (fun _ => 1#1)
      ∧ (fn (F := Ideal) x g1 b1 wq bq wp bp g2 b2 w1 c1 w2 c2).2.2.2.2.2.2.2.2.1 = (fun _ => 1#1)
      ∧ (fn (F := Ideal) x g1 b1 wq bq wp bp g2 b2 w1 c1 w2 c2).2.2.2.2.2.2.2.2.2 = (fun _ => 1#1))
    (b : Fin 4) (t : Fin 2048) (j : Fin 768) :
    blockK (fun s k => x (ix3 b s k)) (fun k l => wq (ix2 k l)) (fun k l => wp (ix2 k l)) (fun k n => w1 (ix2 k n))
        (fun n l => w2 (ix2 n l)) t j
      = blockR (fun s k => x (ix3 b s k)) (fun k => g1 (ix1 k)) (fun k => b1 (ix1 k)) (fun k l => wq (ix2 k l))
          (fun l => bq (ix1 l)) (fun k l => wp (ix2 k l)) (fun k => bp (ix1 k)) (fun k => g2 (ix1 k)) (fun k => b2 (ix1 k))
          (fun k n => w1 (ix2 k n)) (fun n => c1 (ix1 n)) (fun n l => w2 (ix2 n l)) (fun k => c2 (ix1 k)) t j := by
  obtain ⟨h1, h2, h3, h4, h5, h6, h7, h8, h9, h10⟩ := h
  refine Equation.block_eq _ _ _ _ _ _ _ _ _ _ _ _ _ (Pre.ones h1) (Pre.zeros h2) (Pre.zeros h3) (Pre.zeros h4) (Pre.ones h5)
    (Pre.zeros h6) (Pre.zeros h7) (Pre.zeros h8) (fun t u j => ?_) (fun t u j => ?_) t j
  · have := Pre.score_gt _ _ _ _ _ _ _ _ _ _ _ _ _ h9 b ⟨j / 64, by have := j.isLt; omega⟩ t u
    simp only [qCol_eq, kCol_eq, Maths.negInf_eq] at this
    exact this
  · have := Pre.score_le _ _ _ _ _ _ _ _ _ _ _ _ _ h10 b ⟨j / 64, by have := j.isLt; omega⟩ t u
    simp only [qCol_eq, kCol_eq, Maths.reach_eq] at this
    exact this

/-- The kernel's and the reference's results are equal, where their arguments are and the precondition holds of them. -/
theorem results_eq (m : (ℓ : Loc Cert.KernelIdeal.nD Cert.KernelIdeal.τ Cert.KernelIdeal.sig) → Buf (Elt Ideal) ℓ)
    (g : Dev Cert.KernelIdeal.nD → PrngReg) (V : Valuation Cert.ReferenceIdeal.τ Cert.ReferenceIdeal.sig (Elt Ideal))
    (c : Dev Cert.KernelIdeal.nD) (hpre : Pre_KernelIdeal_plain_affine_and_scores_in_reach m)
    (h0 : RefValue.a0 V = m ((c.tc : Thread Cert.KernelIdeal.nD Cert.KernelIdeal.τ).loc Cert.KernelIdeal.main_arg0))
    (h1 : RefValue.a1 V = m ((c.tc : Thread Cert.KernelIdeal.nD Cert.KernelIdeal.τ).loc Cert.KernelIdeal.main_arg1))
    (h2 : RefValue.a2 V = m ((c.tc : Thread Cert.KernelIdeal.nD Cert.KernelIdeal.τ).loc Cert.KernelIdeal.main_arg2))
    (h3 : RefValue.a3 V = m ((c.tc : Thread Cert.KernelIdeal.nD Cert.KernelIdeal.τ).loc Cert.KernelIdeal.main_arg3))
    (h4 : RefValue.a4 V = m ((c.tc : Thread Cert.KernelIdeal.nD Cert.KernelIdeal.τ).loc Cert.KernelIdeal.main_arg4))
    (h5 : RefValue.a5 V = m ((c.tc : Thread Cert.KernelIdeal.nD Cert.KernelIdeal.τ).loc Cert.KernelIdeal.main_arg5))
    (h6 : RefValue.a6 V = m ((c.tc : Thread Cert.KernelIdeal.nD Cert.KernelIdeal.τ).loc Cert.KernelIdeal.main_arg6))
    (h7 : RefValue.a7 V = m ((c.tc : Thread Cert.KernelIdeal.nD Cert.KernelIdeal.τ).loc Cert.KernelIdeal.main_arg7))
    (h8 : RefValue.a8 V = m ((c.tc : Thread Cert.KernelIdeal.nD Cert.KernelIdeal.τ).loc Cert.KernelIdeal.main_arg8))
    (h9 : RefValue.a9 V = m ((c.tc : Thread Cert.KernelIdeal.nD Cert.KernelIdeal.τ).loc Cert.KernelIdeal.main_arg9))
    (h10 : RefValue.a10 V = m ((c.tc : Thread Cert.KernelIdeal.nD Cert.KernelIdeal.τ).loc Cert.KernelIdeal.main_arg10))
    (h11 : RefValue.a11 V = m ((c.tc : Thread Cert.KernelIdeal.nD Cert.KernelIdeal.τ).loc Cert.KernelIdeal.main_arg11))
    (h12 : RefValue.a12 V = m ((c.tc : Thread Cert.KernelIdeal.nD Cert.KernelIdeal.τ).loc Cert.KernelIdeal.main_arg12)) :
    RefValue.out V = (Cert.KernelIdeal.Gen.W7 m g c (Proc.devRef .tc Cert.KernelIdeal.main_v9) : Vec Ideal S4x2048x768 .f32) := by
  rw [Result.result m g c]
  funext i
  idx_vars i
  refine (RefValue.out_apply V _ _ _).trans ?_
  rw [h0, h1, h2, h3, h4, h5, h6, h7, h8, h9, h10, h11, h12]
  exact (agree _ _ _ _ _ _ _ _ _ _ _ _ _ (hpre c) _ _ _).symm

set_option maxHeartbeats 1000000 in
/-- The value claim. -/
theorem algebraic : algebraic_KernelIdeal_ReferenceIdeal_pre_plain_affine_and_scores_in_reach := by
  intro m g m' g' hpre heq
  refine ⟨fun c => Cert.KernelIdeal.Gen.W7 m g c (Proc.devRef .tc Cert.KernelIdeal.main_v9), Run.run m g, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4, h5, h6, h7, h8, h9, h10, h11, h12⟩ := heq c
  exact results_eq m g _ c hpre h0 h1 h2 h3 h4 h5 h6 h7 h8 h9 h10 h11 h12

end Cert.Proof.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Pre_plain_affine_and_scores_in_reach
public import proofs.«01_k».proof.Proof.Algebraic
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The reference at the bit-exact floats leaves its arguments unchanged and every counter at zero. -/
theorem frame_reference : quiescent_Reference := fun m g _ =>
  (θ_run Cert.Reference.defs _ _).mono (fun r h => ⟨fun c => (h c).2, sem_eq_zero_of_no_sems (by decide) r.2⟩)
    (Cert.Reference.Value.run (F := Bits) m g)

/-- The reference at the ideal floats leaves its arguments unchanged and every counter at zero. -/
theorem frame_reference_ideal : quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Every claim of this certificate: the three frames, that the two sides' idealized programs are the printed ones up to
    named constants, and that the idealized kernel and the idealized reference end with the same result. -/
theorem claim : Cert.Claim :=
  ⟨Cert.Kernel.Gen.facts, Cert.KernelIdeal.Gen.facts, Cert.ReferenceIdeal.Gen.facts, Cert.Reference.Gen.facts,
    Cert.Pre_plain_affine_and_scores_in_reach.Gen.facts,
    fun m g _ => Cert.Kernel.Gen.frame m g,
    fun m g _ => Cert.KernelIdeal.Gen.frame m g,
    fun m g _ => Cert.KernelIdeal.Gen.frame m g,
    frame_reference_ideal,
    fun m g _ => frame_reference_ideal m g trivial,
    frame_reference,
    ⟨IdealRules.named_const.statement _ _ _ _ _ rfl, IdealRules.named_const.statement _ _ _ _ _ rfl⟩,
    trivial,
    Algebraic.algebraic⟩

end Cert.Proof

end
